-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4x480 : Shape := ⟨3, ![2048, 4, 480]⟩
abbrev S16x4x5 : Shape := ⟨3, ![16, 4, 5]⟩
abbrev S16 : Shape := ⟨1, ![16]⟩
abbrev S32x16x5 : Shape := ⟨3, ![32, 16, 5]⟩
abbrev S32 : Shape := ⟨1, ![32]⟩
abbrev S6432x6432 : Shape := ⟨2, ![6432, 6432]⟩
abbrev S6432 : Shape := ⟨1, ![6432]⟩
abbrev S5x6432 : Shape := ⟨2, ![5, 6432]⟩
abbrev S5 : Shape := ⟨1, ![5]⟩
abbrev S26x30 : Shape := ⟨2, ![26, 30]⟩
abbrev S19x23 : Shape := ⟨2, ![19, 23]⟩
abbrev S18x22 : Shape := ⟨2, ![18, 22]⟩
abbrev S480x4x2048 : Shape := ⟨3, ![480, 4, 2048]⟩
abbrev S4x5x16 : Shape := ⟨3, ![4, 5, 16]⟩
abbrev S20x16 : Shape := ⟨2, ![20, 16]⟩
abbrev S20x16x1 : Shape := ⟨3, ![20, 16, 1]⟩
abbrev S20x16x128 : Shape := ⟨3, ![20, 16, 128]⟩
abbrev S16x1 : Shape := ⟨2, ![16, 1]⟩
abbrev S16x128 : Shape := ⟨2, ![16, 128]⟩
abbrev S32x1 : Shape := ⟨2, ![32, 1]⟩
abbrev S32x128 : Shape := ⟨2, ![32, 128]⟩
abbrev S_ : Shape := ⟨0, ![]⟩
abbrev S26x32x30x16 : Shape := ⟨4, ![26, 32, 30, 16]⟩
abbrev S26x1x30x1 : Shape := ⟨4, ![26, 1, 30, 1]⟩
abbrev S32x16x1 : Shape := ⟨3, ![32, 16, 1]⟩
abbrev S32x16 : Shape := ⟨2, ![32, 16]⟩
abbrev S1x32x1x16 : Shape := ⟨4, ![1, 32, 1, 16]⟩
abbrev S832x480 : Shape := ⟨2, ![832, 480]⟩
abbrev S19x32x23x16 : Shape := ⟨4, ![19, 32, 23, 16]⟩
abbrev S19x1x23x1 : Shape := ⟨4, ![19, 1, 23, 1]⟩
abbrev S608x368 : Shape := ⟨2, ![608, 368]⟩
abbrev S18x32x22x16 : Shape := ⟨4, ![18, 32, 22, 16]⟩
abbrev S18x1x22x1 : Shape := ⟨4, ![18, 1, 22, 1]⟩
abbrev S576x352 : Shape := ⟨2, ![576, 352]⟩
abbrev S201x32x2048 : Shape := ⟨3, ![201, 32, 2048]⟩
abbrev S32x201x2048 : Shape := ⟨3, ![32, 201, 2048]⟩
abbrev S6432x2048 : Shape := ⟨2, ![6432, 2048]⟩
abbrev S6432x1 : Shape := ⟨2, ![6432, 1]⟩
abbrev S6432x128 : Shape := ⟨2, ![6432, 128]⟩
abbrev S8x6432 : Shape := ⟨2, ![8, 6432]⟩
abbrev S8 : Shape := ⟨1, ![8]⟩
abbrev S8x1 : Shape := ⟨2, ![8, 1]⟩
abbrev S8x128 : Shape := ⟨2, ![8, 128]⟩
abbrev S8x2048 : Shape := ⟨2, ![8, 2048]⟩
abbrev S5x2048 : Shape := ⟨2, ![5, 2048]⟩
abbrev S2048x5 : Shape := ⟨2, ![2048, 5]⟩
abbrev S480x4x128 : Shape := ⟨3, ![480, 4, 128]⟩
abbrev S201x32x128 : Shape := ⟨3, ![201, 32, 128]⟩
abbrev S1x16x128 : Shape := ⟨3, ![1, 16, 128]⟩
abbrev S476x16x128 : Shape := ⟨3, ![476, 16, 128]⟩
abbrev S480x1x128 : Shape := ⟨3, ![480, 1, 128]⟩
abbrev S476x1x128 : Shape := ⟨3, ![476, 1, 128]⟩
abbrev S238x2x16x128 : Shape := ⟨4, ![238, 2, 16, 128]⟩
abbrev S238x16x128 : Shape := ⟨3, ![238, 16, 128]⟩
abbrev S3808x128 : Shape := ⟨2, ![3808, 128]⟩
abbrev S480x128 : Shape := ⟨2, ![480, 128]⟩
abbrev S832x128 : Shape := ⟨2, ![832, 128]⟩
abbrev S26x32x128 : Shape := ⟨3, ![26, 32, 128]⟩
abbrev S1x32x128 : Shape := ⟨3, ![1, 32, 128]⟩
abbrev S234x32x128 : Shape := ⟨3, ![234, 32, 128]⟩
abbrev S117x2x32x128 : Shape := ⟨4, ![117, 2, 32, 128]⟩
abbrev S117x32x128 : Shape := ⟨3, ![117, 32, 128]⟩
abbrev S240x2x4x128 : Shape := ⟨4, ![240, 2, 4, 128]⟩
abbrev S240x4x128 : Shape := ⟨3, ![240, 4, 128]⟩
abbrev S236x16x128 : Shape := ⟨3, ![236, 16, 128]⟩
abbrev S240x1x128 : Shape := ⟨3, ![240, 1, 128]⟩
abbrev S236x1x128 : Shape := ⟨3, ![236, 1, 128]⟩
abbrev S118x2x16x128 : Shape := ⟨4, ![118, 2, 16, 128]⟩
abbrev S118x16x128 : Shape := ⟨3, ![118, 16, 128]⟩
abbrev S1888x128 : Shape := ⟨2, ![1888, 128]⟩
abbrev S368x128 : Shape := ⟨2, ![368, 128]⟩
abbrev S608x128 : Shape := ⟨2, ![608, 128]⟩
abbrev S19x32x128 : Shape := ⟨3, ![19, 32, 128]⟩
abbrev S114x32x128 : Shape := ⟨3, ![114, 32, 128]⟩
abbrev S57x2x32x128 : Shape := ⟨4, ![57, 2, 32, 128]⟩
abbrev S57x32x128 : Shape := ⟨3, ![57, 32, 128]⟩
abbrev S120x4x4x128 : Shape := ⟨4, ![120, 4, 4, 128]⟩
abbrev S120x4x128 : Shape := ⟨3, ![120, 4, 128]⟩
abbrev S116x16x128 : Shape := ⟨3, ![116, 16, 128]⟩
abbrev S120x1x128 : Shape := ⟨3, ![120, 1, 128]⟩
abbrev S116x1x128 : Shape := ⟨3, ![116, 1, 128]⟩
abbrev S58x2x16x128 : Shape := ⟨4, ![58, 2, 16, 128]⟩
abbrev S58x16x128 : Shape := ⟨3, ![58, 16, 128]⟩
abbrev S928x128 : Shape := ⟨2, ![928, 128]⟩
abbrev S352x128 : Shape := ⟨2, ![352, 128]⟩
abbrev S576x128 : Shape := ⟨2, ![576, 128]⟩
abbrev S18x32x128 : Shape := ⟨3, ![18, 32, 128]⟩
abbrev S54x32x128 : Shape := ⟨3, ![54, 32, 128]⟩
abbrev S27x2x32x128 : Shape := ⟨4, ![27, 2, 32, 128]⟩
abbrev S27x32x128 : Shape := ⟨3, ![27, 32, 128]⟩
abbrev S536x6432 : Shape := ⟨2, ![536, 6432]⟩
abbrev S6432x1024 : Shape := ⟨2, ![6432, 1024]⟩
abbrev S536x128 : Shape := ⟨2, ![536, 128]⟩
abbrev S536x1024 : Shape := ⟨2, ![536, 1024]⟩

abbrev nBuf : Space → Nat
  | .hbm => 184
  | .vmem => 46
  | .smem => 0
  | _ => 0

abbrev hbmTy0_0 (i : Nat) : BufTy := match i % 128 with
  | 0 => ⟨S2048x4x480, .f32⟩
  | 1 => ⟨S16x4x5, .f32⟩
  | 2 => ⟨S16, .f32⟩
  | 3 => ⟨S32x16x5, .f32⟩
  | 4 => ⟨S32, .f32⟩
  | 5 => ⟨S6432x6432, .f32⟩
  | 6 => ⟨S6432, .f32⟩
  | 7 => ⟨S5x6432, .f32⟩
  | 8 => ⟨S5, .f32⟩
  | 9 => ⟨S26x30, .f32⟩
  | 10 => ⟨S26x30, .f32⟩
  | 11 => ⟨S26x30, .f32⟩
  | 12 => ⟨S26x30, .f32⟩
  | 13 => ⟨S26x30, .f32⟩
  | 14 => ⟨S19x23, .f32⟩
  | 15 => ⟨S19x23, .f32⟩
  | 16 => ⟨S19x23, .f32⟩
  | 17 => ⟨S19x23, .f32⟩
  | 18 => ⟨S19x23, .f32⟩
  | 19 => ⟨S18x22, .f32⟩
  | 20 => ⟨S18x22, .f32⟩
  | 21 => ⟨S18x22, .f32⟩
  | 22 => ⟨S18x22, .f32⟩
  | 23 => ⟨S18x22, .f32⟩
  | 24 => ⟨S480x4x2048, .f32⟩
  | 25 => ⟨S4x5x16, .f32⟩
  | 26 => ⟨S20x16, .f32⟩
  | 27 => ⟨S20x16x1, .f32⟩
  | 28 => ⟨S20x16x128, .f32⟩
  | 29 => ⟨S16x1, .f32⟩
  | 30 => ⟨S16x128, .f32⟩
  | 31 => ⟨S32x1, .f32⟩
  | 32 => ⟨S32x128, .f32⟩
  | 33 => ⟨S_, .f32⟩
  | 34 => ⟨S26x32x30x16, .f32⟩
  | 35 => ⟨S26x1x30x1, .f32⟩
  | 36 => ⟨S32x16x1, .f32⟩
  | 37 => ⟨S32x16, .f32⟩
  | 38 => ⟨S1x32x1x16, .f32⟩
  | 39 => ⟨S26x32x30x16, .f32⟩
  | 40 => ⟨S26x32x30x16, .f32⟩
  | 41 => ⟨S26x32x30x16, .f32⟩
  | 42 => ⟨S26x32x30x16, .f32⟩
  | 43 => ⟨S26x1x30x1, .f32⟩
  | 44 => ⟨S32x16x1, .f32⟩
  | 45 => ⟨S32x16, .f32⟩
  | 46 => ⟨S1x32x1x16, .f32⟩
  | 47 => ⟨S26x32x30x16, .f32⟩
  | 48 => ⟨S26x32x30x16, .f32⟩
  | 49 => ⟨S26x32x30x16, .f32⟩
  | 50 => ⟨S26x32x30x16, .f32⟩
  | 51 => ⟨S26x1x30x1, .f32⟩
  | 52 => ⟨S32x16x1, .f32⟩
  | 53 => ⟨S32x16, .f32⟩
  | 54 => ⟨S1x32x1x16, .f32⟩
  | 55 => ⟨S26x32x30x16, .f32⟩
  | 56 => ⟨S26x32x30x16, .f32⟩
  | 57 => ⟨S26x32x30x16, .f32⟩
  | 58 => ⟨S26x32x30x16, .f32⟩
  | 59 => ⟨S26x1x30x1, .f32⟩
  | 60 => ⟨S32x16x1, .f32⟩
  | 61 => ⟨S32x16, .f32⟩
  | 62 => ⟨S1x32x1x16, .f32⟩
  | 63 => ⟨S26x32x30x16, .f32⟩
  | 64 => ⟨S26x32x30x16, .f32⟩
  | 65 => ⟨S26x32x30x16, .f32⟩
  | 66 => ⟨S26x32x30x16, .f32⟩
  | 67 => ⟨S26x1x30x1, .f32⟩
  | 68 => ⟨S32x16x1, .f32⟩
  | 69 => ⟨S32x16, .f32⟩
  | 70 => ⟨S1x32x1x16, .f32⟩
  | 71 => ⟨S26x32x30x16, .f32⟩
  | 72 => ⟨S26x32x30x16, .f32⟩
  | 73 => ⟨S26x32x30x16, .f32⟩
  | 74 => ⟨S26x32x30x16, .f32⟩
  | 75 => ⟨S832x480, .f32⟩
  | 76 => ⟨S_, .f32⟩
  | 77 => ⟨S19x32x23x16, .f32⟩
  | 78 => ⟨S19x1x23x1, .f32⟩
  | 79 => ⟨S32x16x1, .f32⟩
  | 80 => ⟨S32x16, .f32⟩
  | 81 => ⟨S1x32x1x16, .f32⟩
  | 82 => ⟨S19x32x23x16, .f32⟩
  | 83 => ⟨S19x32x23x16, .f32⟩
  | 84 => ⟨S19x32x23x16, .f32⟩
  | 85 => ⟨S19x32x23x16, .f32⟩
  | 86 => ⟨S19x1x23x1, .f32⟩
  | 87 => ⟨S32x16x1, .f32⟩
  | 88 => ⟨S32x16, .f32⟩
  | 89 => ⟨S1x32x1x16, .f32⟩
  | 90 => ⟨S19x32x23x16, .f32⟩
  | 91 => ⟨S19x32x23x16, .f32⟩
  | 92 => ⟨S19x32x23x16, .f32⟩
  | 93 => ⟨S19x32x23x16, .f32⟩
  | 94 => ⟨S19x1x23x1, .f32⟩
  | 95 => ⟨S32x16x1, .f32⟩
  | 96 => ⟨S32x16, .f32⟩
  | 97 => ⟨S1x32x1x16, .f32⟩
  | 98 => ⟨S19x32x23x16, .f32⟩
  | 99 => ⟨S19x32x23x16, .f32⟩
  | 100 => ⟨S19x32x23x16, .f32⟩
  | 101 => ⟨S19x32x23x16, .f32⟩
  | 102 => ⟨S19x1x23x1, .f32⟩
  | 103 => ⟨S32x16x1, .f32⟩
  | 104 => ⟨S32x16, .f32⟩
  | 105 => ⟨S1x32x1x16, .f32⟩
  | 106 => ⟨S19x32x23x16, .f32⟩
  | 107 => ⟨S19x32x23x16, .f32⟩
  | 108 => ⟨S19x32x23x16, .f32⟩
  | 109 => ⟨S19x32x23x16, .f32⟩
  | 110 => ⟨S19x1x23x1, .f32⟩
  | 111 => ⟨S32x16x1, .f32⟩
  | 112 => ⟨S32x16, .f32⟩
  | 113 => ⟨S1x32x1x16, .f32⟩
  | 114 => ⟨S19x32x23x16, .f32⟩
  | 115 => ⟨S19x32x23x16, .f32⟩
  | 116 => ⟨S19x32x23x16, .f32⟩
  | 117 => ⟨S19x32x23x16, .f32⟩
  | 118 => ⟨S608x368, .f32⟩
  | 119 => ⟨S_, .f32⟩
  | 120 => ⟨S18x32x22x16, .f32⟩
  | 121 => ⟨S18x1x22x1, .f32⟩
  | 122 => ⟨S32x16x1, .f32⟩
  | 123 => ⟨S32x16, .f32⟩
  | 124 => ⟨S1x32x1x16, .f32⟩
  | 125 => ⟨S18x32x22x16, .f32⟩
  | 126 => ⟨S18x32x22x16, .f32⟩
  | 127 => ⟨S18x32x22x16, .f32⟩
  | _ => ⟨S2048x4x480, .f32⟩

abbrev hbmTy0_1 (i : Nat) : BufTy := match i % 128 with
  | 0 => ⟨S18x32x22x16, .f32⟩
  | 1 => ⟨S18x1x22x1, .f32⟩
  | 2 => ⟨S32x16x1, .f32⟩
  | 3 => ⟨S32x16, .f32⟩
  | 4 => ⟨S1x32x1x16, .f32⟩
  | 5 => ⟨S18x32x22x16, .f32⟩
  | 6 => ⟨S18x32x22x16, .f32⟩
  | 7 => ⟨S18x32x22x16, .f32⟩
  | 8 => ⟨S18x32x22x16, .f32⟩
  | 9 => ⟨S18x1x22x1, .f32⟩
  | 10 => ⟨S32x16x1, .f32⟩
  | 11 => ⟨S32x16, .f32⟩
  | 12 => ⟨S1x32x1x16, .f32⟩
  | 13 => ⟨S18x32x22x16, .f32⟩
  | 14 => ⟨S18x32x22x16, .f32⟩
  | 15 => ⟨S18x32x22x16, .f32⟩
  | 16 => ⟨S18x32x22x16, .f32⟩
  | 17 => ⟨S18x1x22x1, .f32⟩
  | 18 => ⟨S32x16x1, .f32⟩
  | 19 => ⟨S32x16, .f32⟩
  | 20 => ⟨S1x32x1x16, .f32⟩
  | 21 => ⟨S18x32x22x16, .f32⟩
  | 22 => ⟨S18x32x22x16, .f32⟩
  | 23 => ⟨S18x32x22x16, .f32⟩
  | 24 => ⟨S18x32x22x16, .f32⟩
  | 25 => ⟨S18x1x22x1, .f32⟩
  | 26 => ⟨S32x16x1, .f32⟩
  | 27 => ⟨S32x16, .f32⟩
  | 28 => ⟨S1x32x1x16, .f32⟩
  | 29 => ⟨S18x32x22x16, .f32⟩
  | 30 => ⟨S18x32x22x16, .f32⟩
  | 31 => ⟨S18x32x22x16, .f32⟩
  | 32 => ⟨S18x32x22x16, .f32⟩
  | 33 => ⟨S576x352, .f32⟩
  | 34 => ⟨S201x32x2048, .bf16⟩
  | 35 => ⟨S32x201x2048, .bf16⟩
  | 36 => ⟨S6432x2048, .bf16⟩
  | 37 => ⟨S6432x6432, .bf16⟩
  | 38 => ⟨S6432x1, .f32⟩
  | 39 => ⟨S6432x128, .f32⟩
  | 40 => ⟨S6432x2048, .bf16⟩
  | 41 => ⟨S6432x2048, .bf16⟩
  | 42 => ⟨S6432x2048, .bf16⟩
  | 43 => ⟨S6432x2048, .bf16⟩
  | 44 => ⟨S_, .i32⟩
  | 45 => ⟨S_, .f32⟩
  | 46 => ⟨S8x6432, .f32⟩
  | 47 => ⟨S8x6432, .bf16⟩
  | 48 => ⟨S_, .i32⟩
  | 49 => ⟨S_, .f32⟩
  | 50 => ⟨S8, .f32⟩
  | 51 => ⟨S8x1, .f32⟩
  | 52 => ⟨S8x128, .f32⟩
  | 53 => ⟨S8x2048, .f32⟩
  | 54 => ⟨S5x2048, .f32⟩
  | 55 => ⟨S2048x5, .f32⟩
  | _ => ⟨S2048x4x480, .f32⟩

abbrev hbmTy (i : Nat) : BufTy := match i / 128 with
  | 0 => hbmTy0_0 i
  | 1 => hbmTy0_1 i
  | _ => ⟨S2048x4x480, .f32⟩

abbrev bufTy : (tb : Table) → Fin (tcTables nBuf tb) → BufTy
  | .hbm, ⟨i, _⟩ => hbmTy i
  | .local _ .vmem, ⟨0, _⟩ => ⟨S480x4x128, .f32⟩
  | .local _ .vmem, ⟨1, _⟩ => ⟨S480x4x128, .f32⟩
  | .local _ .vmem, ⟨2, _⟩ => ⟨S20x16x128, .f32⟩
  | .local _ .vmem, ⟨3, _⟩ => ⟨S16x128, .f32⟩
  | .local _ .vmem, ⟨4, _⟩ => ⟨S32x128, .f32⟩
  | .local _ .vmem, ⟨5, _⟩ => ⟨S832x480, .f32⟩
  | .local _ .vmem, ⟨6, _⟩ => ⟨S608x368, .f32⟩
  | .local _ .vmem, ⟨7, _⟩ => ⟨S576x352, .f32⟩
  | .local _ .vmem, ⟨8, _⟩ => ⟨S201x32x128, .bf16⟩
  | .local _ .vmem, ⟨9, _⟩ => ⟨S201x32x128, .bf16⟩
  | .local _ .vmem, ⟨10, _⟩ => ⟨S536x6432, .bf16⟩
  | .local _ .vmem, ⟨11, _⟩ => ⟨S536x6432, .bf16⟩
  | .local _ .vmem, ⟨12, _⟩ => ⟨S6432x1024, .bf16⟩
  | .local _ .vmem, ⟨13, _⟩ => ⟨S6432x1024, .bf16⟩
  | .local _ .vmem, ⟨14, _⟩ => ⟨S536x128, .f32⟩
  | .local _ .vmem, ⟨15, _⟩ => ⟨S536x128, .f32⟩
  | .local _ .vmem, ⟨16, _⟩ => ⟨S536x1024, .bf16⟩
  | .local _ .vmem, ⟨17, _⟩ => ⟨S536x1024, .bf16⟩
  | .local _ .vmem, ⟨18, _⟩ => ⟨S536x6432, .bf16⟩
  | .local _ .vmem, ⟨19, _⟩ => ⟨S536x6432, .bf16⟩
  | .local _ .vmem, ⟨20, _⟩ => ⟨S6432x1024, .bf16⟩
  | .local _ .vmem, ⟨21, _⟩ => ⟨S6432x1024, .bf16⟩
  | .local _ .vmem, ⟨22, _⟩ => ⟨S536x128, .f32⟩
  | .local _ .vmem, ⟨23, _⟩ => ⟨S536x128, .f32⟩
  | .local _ .vmem, ⟨24, _⟩ => ⟨S536x1024, .bf16⟩
  | .local _ .vmem, ⟨25, _⟩ => ⟨S536x1024, .bf16⟩
  | .local _ .vmem, ⟨26, _⟩ => ⟨S536x6432, .bf16⟩
  | .local _ .vmem, ⟨27, _⟩ => ⟨S536x6432, .bf16⟩
  | .local _ .vmem, ⟨28, _⟩ => ⟨S6432x1024, .bf16⟩
  | .local _ .vmem, ⟨29, _⟩ => ⟨S6432x1024, .bf16⟩
  | .local _ .vmem, ⟨30, _⟩ => ⟨S536x128, .f32⟩
  | .local _ .vmem, ⟨31, _⟩ => ⟨S536x128, .f32⟩
  | .local _ .vmem, ⟨32, _⟩ => ⟨S536x1024, .bf16⟩
  | .local _ .vmem, ⟨33, _⟩ => ⟨S536x1024, .bf16⟩
  | .local _ .vmem, ⟨34, _⟩ => ⟨S536x6432, .bf16⟩
  | .local _ .vmem, ⟨35, _⟩ => ⟨S536x6432, .bf16⟩
  | .local _ .vmem, ⟨36, _⟩ => ⟨S6432x1024, .bf16⟩
  | .local _ .vmem, ⟨37, _⟩ => ⟨S6432x1024, .bf16⟩
  | .local _ .vmem, ⟨38, _⟩ => ⟨S536x128, .f32⟩
  | .local _ .vmem, ⟨39, _⟩ => ⟨S536x128, .f32⟩
  | .local _ .vmem, ⟨40, _⟩ => ⟨S536x1024, .bf16⟩
  | .local _ .vmem, ⟨41, _⟩ => ⟨S536x1024, .bf16⟩
  | .local _ .vmem, ⟨42, _⟩ => ⟨S8x6432, .bf16⟩
  | .local _ .vmem, ⟨43, _⟩ => ⟨S6432x2048, .bf16⟩
  | .local _ .vmem, ⟨44, _⟩ => ⟨S8x128, .f32⟩
  | .local _ .vmem, ⟨45, _⟩ => ⟨S8x2048, .f32⟩
  | _, _ => ⟨S2048x4x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_cst_0 : Ref sig .tc := ⟨.hbm, 10, rfl⟩
abbrev main_call0_cst_1 : Ref sig .tc := ⟨.hbm, 11, rfl⟩
abbrev main_call0_cst_2 : Ref sig .tc := ⟨.hbm, 12, rfl⟩
abbrev main_call0_cst_3 : Ref sig .tc := ⟨.hbm, 13, rfl⟩
abbrev main_call0_cst_4 : Ref sig .tc := ⟨.hbm, 14, rfl⟩
abbrev main_call0_cst_5 : Ref sig .tc := ⟨.hbm, 15, rfl⟩
abbrev main_call0_cst_6 : Ref sig .tc := ⟨.hbm, 16, rfl⟩
abbrev main_call0_cst_7 : Ref sig .tc := ⟨.hbm, 17, rfl⟩
abbrev main_call0_cst_8 : Ref sig .tc := ⟨.hbm, 18, rfl⟩
abbrev main_call0_cst_9 : Ref sig .tc := ⟨.hbm, 19, rfl⟩
abbrev main_call0_cst_10 : Ref sig .tc := ⟨.hbm, 20, rfl⟩
abbrev main_call0_cst_11 : Ref sig .tc := ⟨.hbm, 21, rfl⟩
abbrev main_call0_cst_12 : Ref sig .tc := ⟨.hbm, 22, rfl⟩
abbrev main_call0_cst_13 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_cst_14 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_cst_15 : Ref sig .tc := ⟨.hbm, 76, rfl⟩
abbrev main_call0_v51 : Ref sig .tc := ⟨.hbm, 77, rfl⟩
abbrev main_call0_v52 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_v63 : Ref sig .tc := ⟨.hbm, 89, rfl⟩
abbrev main_call0_v64 : Ref sig .tc := ⟨.hbm, 90, rfl⟩
abbrev main_call0_v65 : Ref sig .tc := ⟨.hbm, 91, rfl⟩
abbrev main_call0_v66 : Ref sig .tc := ⟨.hbm, 92, rfl⟩
abbrev main_call0_v67 : Ref sig .tc := ⟨.hbm, 93, rfl⟩
abbrev main_call0_v68 : Ref sig .tc := ⟨.hbm, 94, rfl⟩
abbrev main_call0_v69 : Ref sig .tc := ⟨.hbm, 95, rfl⟩
abbrev main_call0_v70 : Ref sig .tc := ⟨.hbm, 96, rfl⟩
abbrev main_call0_v71 : Ref sig .tc := ⟨.hbm, 97, rfl⟩
abbrev main_call0_v72 : Ref sig .tc := ⟨.hbm, 98, rfl⟩
abbrev main_call0_v73 : Ref sig .tc := ⟨.hbm, 99, rfl⟩
abbrev main_call0_v74 : Ref sig .tc := ⟨.hbm, 100, rfl⟩
abbrev main_call0_v75 : Ref sig .tc := ⟨.hbm, 101, rfl⟩
abbrev main_call0_v76 : Ref sig .tc := ⟨.hbm, 102, rfl⟩
abbrev main_call0_v77 : Ref sig .tc := ⟨.hbm, 103, rfl⟩
abbrev main_call0_v78 : Ref sig .tc := ⟨.hbm, 104, rfl⟩
abbrev main_call0_v79 : Ref sig .tc := ⟨.hbm, 105, rfl⟩
abbrev main_call0_v80 : Ref sig .tc := ⟨.hbm, 106, rfl⟩
abbrev main_call0_v81 : Ref sig .tc := ⟨.hbm, 107, rfl⟩
abbrev main_call0_v82 : Ref sig .tc := ⟨.hbm, 108, rfl⟩
abbrev main_call0_v83 : Ref sig .tc := ⟨.hbm, 109, rfl⟩
abbrev main_call0_v84 : Ref sig .tc := ⟨.hbm, 110, rfl⟩
abbrev main_call0_v85 : Ref sig .tc := ⟨.hbm, 111, rfl⟩
abbrev main_call0_v86 : Ref sig .tc := ⟨.hbm, 112, rfl⟩
abbrev main_call0_v87 : Ref sig .tc := ⟨.hbm, 113, rfl⟩
abbrev main_call0_v88 : Ref sig .tc := ⟨.hbm, 114, rfl⟩
abbrev main_call0_v89 : Ref sig .tc := ⟨.hbm, 115, rfl⟩
abbrev main_call0_v90 : Ref sig .tc := ⟨.hbm, 116, rfl⟩
abbrev main_call0_v91 : Ref sig .tc := ⟨.hbm, 117, rfl⟩
abbrev main_call0_v92 : Ref sig .tc := ⟨.hbm, 118, rfl⟩
abbrev main_call0_cst_16 : Ref sig .tc := ⟨.hbm, 119, rfl⟩
abbrev main_call0_v93 : Ref sig .tc := ⟨.hbm, 120, rfl⟩
abbrev main_call0_v94 : Ref sig .tc := ⟨.hbm, 121, rfl⟩
abbrev main_call0_v95 : Ref sig .tc := ⟨.hbm, 122, rfl⟩
abbrev main_call0_v96 : Ref sig .tc := ⟨.hbm, 123, rfl⟩
abbrev main_call0_v97 : Ref sig .tc := ⟨.hbm, 124, rfl⟩
abbrev main_call0_v98 : Ref sig .tc := ⟨.hbm, 125, rfl⟩
abbrev main_call0_v99 : Ref sig .tc := ⟨.hbm, 126, rfl⟩
abbrev main_call0_v100 : Ref sig .tc := ⟨.hbm, 127, rfl⟩
abbrev main_call0_v101 : Ref sig .tc := ⟨.hbm, 128, rfl⟩
abbrev main_call0_v102 : Ref sig .tc := ⟨.hbm, 129, rfl⟩
abbrev main_call0_v103 : Ref sig .tc := ⟨.hbm, 130, rfl⟩
abbrev main_call0_v104 : Ref sig .tc := ⟨.hbm, 131, rfl⟩
abbrev main_call0_v105 : Ref sig .tc := ⟨.hbm, 132, rfl⟩
abbrev main_call0_v106 : Ref sig .tc := ⟨.hbm, 133, rfl⟩
abbrev main_call0_v107 : Ref sig .tc := ⟨.hbm, 134, rfl⟩
abbrev main_call0_v108 : Ref sig .tc := ⟨.hbm, 135, rfl⟩
abbrev main_call0_v109 : Ref sig .tc := ⟨.hbm, 136, rfl⟩
abbrev main_call0_v110 : Ref sig .tc := ⟨.hbm, 137, rfl⟩
abbrev main_call0_v111 : Ref sig .tc := ⟨.hbm, 138, rfl⟩
abbrev main_call0_v112 : Ref sig .tc := ⟨.hbm, 139, rfl⟩
abbrev main_call0_v113 : Ref sig .tc := ⟨.hbm, 140, rfl⟩
abbrev main_call0_v114 : Ref sig .tc := ⟨.hbm, 141, rfl⟩
abbrev main_call0_v115 : Ref sig .tc := ⟨.hbm, 142, rfl⟩
abbrev main_call0_v116 : Ref sig .tc := ⟨.hbm, 143, rfl⟩
abbrev main_call0_v117 : Ref sig .tc := ⟨.hbm, 144, rfl⟩
abbrev main_call0_v118 : Ref sig .tc := ⟨.hbm, 145, rfl⟩
abbrev main_call0_v119 : Ref sig .tc := ⟨.hbm, 146, rfl⟩
abbrev main_call0_v120 : Ref sig .tc := ⟨.hbm, 147, rfl⟩
abbrev main_call0_v121 : Ref sig .tc := ⟨.hbm, 148, rfl⟩
abbrev main_call0_v122 : Ref sig .tc := ⟨.hbm, 149, rfl⟩
abbrev main_call0_v123 : Ref sig .tc := ⟨.hbm, 150, rfl⟩
abbrev main_call0_v124 : Ref sig .tc := ⟨.hbm, 151, rfl⟩
abbrev main_call0_v125 : Ref sig .tc := ⟨.hbm, 152, rfl⟩
abbrev main_call0_v126 : Ref sig .tc := ⟨.hbm, 153, rfl⟩
abbrev main_call0_v127 : Ref sig .tc := ⟨.hbm, 154, rfl⟩
abbrev main_call0_v128 : Ref sig .tc := ⟨.hbm, 155, rfl⟩
abbrev main_call0_v129 : Ref sig .tc := ⟨.hbm, 156, rfl⟩
abbrev main_call0_v130 : Ref sig .tc := ⟨.hbm, 157, rfl⟩
abbrev main_call0_v131 : Ref sig .tc := ⟨.hbm, 158, rfl⟩
abbrev main_call0_v132 : Ref sig .tc := ⟨.hbm, 159, rfl⟩
abbrev main_call0_v133 : Ref sig .tc := ⟨.hbm, 160, rfl⟩
abbrev main_call0_v134 : Ref sig .tc := ⟨.hbm, 161, rfl⟩
abbrev main_call0_v135 : Ref sig .tc := ⟨.hbm, 162, rfl⟩
abbrev main_call0_v136 : Ref sig .tc := ⟨.hbm, 163, rfl⟩
abbrev main_call0_v137 : Ref sig .tc := ⟨.hbm, 164, rfl⟩
abbrev main_call0_v138 : Ref sig .tc := ⟨.hbm, 165, rfl⟩
abbrev main_call0_v139 : Ref sig .tc := ⟨.hbm, 166, rfl⟩
abbrev main_call0_v140 : Ref sig .tc := ⟨.hbm, 167, rfl⟩
abbrev main_call0_v141 : Ref sig .tc := ⟨.hbm, 168, rfl⟩
abbrev main_call0_v142 : Ref sig .tc := ⟨.hbm, 169, rfl⟩
abbrev main_call0_v143 : Ref sig .tc := ⟨.hbm, 170, rfl⟩
abbrev main_call0_v144 : Ref sig .tc := ⟨.hbm, 171, rfl⟩
abbrev main_call0_c : Ref sig .tc := ⟨.hbm, 172, rfl⟩
abbrev main_call0_call0_v0 : Ref sig .tc := ⟨.hbm, 173, rfl⟩
abbrev main_call0_v145 : Ref sig .tc := ⟨.hbm, 174, rfl⟩
abbrev main_call0_v146 : Ref sig .tc := ⟨.hbm, 175, rfl⟩
abbrev main_call0_c_17 : Ref sig .tc := ⟨.hbm, 176, rfl⟩
abbrev main_call0_call1_v0 : Ref sig .tc := ⟨.hbm, 177, rfl⟩
abbrev main_call0_v147 : Ref sig .tc := ⟨.hbm, 178, rfl⟩
abbrev main_call0_v148 : Ref sig .tc := ⟨.hbm, 179, rfl⟩
abbrev main_call0_v149 : Ref sig .tc := ⟨.hbm, 180, rfl⟩
abbrev main_call0_v150 : Ref sig .tc := ⟨.hbm, 181, rfl⟩
abbrev main_call0_v151 : Ref sig .tc := ⟨.hbm, 182, rfl⟩
abbrev main_v0 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc5_sem0_0 : DmaSem sig := 42
abbrev cc5_sem1_0 : DmaSem sig := 43
abbrev cc5_sem2_0 : DmaSem sig := 44
abbrev cc5_sem3_0 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S480x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S832x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S608x368 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S576x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S201x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S536x6432 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S6432x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S536x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S536x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S536x6432 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S6432x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S536x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S536x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 12], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S536x6432 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S6432x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S536x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S536x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 12], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S536x6432 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S6432x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S536x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S536x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S8x6432 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S6432x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S8x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]
-- ==== ReferenceIdeal.lean ====
abbrev S2048x4x480 : Shape := ⟨3, ![2048, 4, 480]⟩
abbrev S16x4x5 : Shape := ⟨3, ![16, 4, 5]⟩
abbrev S16 : Shape := ⟨1, ![16]⟩
abbrev S32x16x5 : Shape := ⟨3, ![32, 16, 5]⟩
abbrev S32 : Shape := ⟨1, ![32]⟩
abbrev S6432x6432 : Shape := ⟨2, ![6432, 6432]⟩
abbrev S6432 : Shape := ⟨1, ![6432]⟩
abbrev S5x6432 : Shape := ⟨2, ![5, 6432]⟩
abbrev S5 : Shape := ⟨1, ![5]⟩
abbrev S2048x4x480x1 : Shape := ⟨4, ![2048, 4, 480, 1]⟩
abbrev S_ : Shape := ⟨0, ![]⟩
abbrev S2048x4x476 : Shape := ⟨3, ![2048, 4, 476]⟩
abbrev S16x4x1 : Shape := ⟨3, ![16, 4, 1]⟩
abbrev S16x4 : Shape := ⟨2, ![16, 4]⟩
abbrev S16x2048x476 : Shape := ⟨3, ![16, 2048, 476]⟩
abbrev S2048x16x476 : Shape := ⟨3, ![2048, 16, 476]⟩
abbrev S1x16x1 : Shape := ⟨3, ![1, 16, 1]⟩
abbrev S2048x16x238x2 : Shape := ⟨4, ![2048, 16, 238, 2]⟩
abbrev S2048x16x238 : Shape := ⟨3, ![2048, 16, 238]⟩
abbrev S2048x16x234 : Shape := ⟨3, ![2048, 16, 234]⟩
abbrev S32x16x1 : Shape := ⟨3, ![32, 16, 1]⟩
abbrev S32x16 : Shape := ⟨2, ![32, 16]⟩
abbrev S32x2048x234 : Shape := ⟨3, ![32, 2048, 234]⟩
abbrev S2048x32x234 : Shape := ⟨3, ![2048, 32, 234]⟩
abbrev S1x32x1 : Shape := ⟨3, ![1, 32, 1]⟩
abbrev S2048x32x117x2 : Shape := ⟨4, ![2048, 32, 117, 2]⟩
abbrev S2048x32x117 : Shape := ⟨3, ![2048, 32, 117]⟩
abbrev S2048x4x240x2 : Shape := ⟨4, ![2048, 4, 240, 2]⟩
abbrev S2048x4x240 : Shape := ⟨3, ![2048, 4, 240]⟩
abbrev S2048x4x236 : Shape := ⟨3, ![2048, 4, 236]⟩
abbrev S16x2048x236 : Shape := ⟨3, ![16, 2048, 236]⟩
abbrev S2048x16x236 : Shape := ⟨3, ![2048, 16, 236]⟩
abbrev S2048x16x118x2 : Shape := ⟨4, ![2048, 16, 118, 2]⟩
abbrev S2048x16x118 : Shape := ⟨3, ![2048, 16, 118]⟩
abbrev S2048x16x114 : Shape := ⟨3, ![2048, 16, 114]⟩
abbrev S32x2048x114 : Shape := ⟨3, ![32, 2048, 114]⟩
abbrev S2048x32x114 : Shape := ⟨3, ![2048, 32, 114]⟩
abbrev S2048x32x57x2 : Shape := ⟨4, ![2048, 32, 57, 2]⟩
abbrev S2048x32x57 : Shape := ⟨3, ![2048, 32, 57]⟩
abbrev S2048x4x120x4 : Shape := ⟨4, ![2048, 4, 120, 4]⟩
abbrev S2048x4x120 : Shape := ⟨3, ![2048, 4, 120]⟩
abbrev S2048x4x116 : Shape := ⟨3, ![2048, 4, 116]⟩
abbrev S16x2048x116 : Shape := ⟨3, ![16, 2048, 116]⟩
abbrev S2048x16x116 : Shape := ⟨3, ![2048, 16, 116]⟩
abbrev S2048x16x58x2 : Shape := ⟨4, ![2048, 16, 58, 2]⟩
abbrev S2048x16x58 : Shape := ⟨3, ![2048, 16, 58]⟩
abbrev S2048x16x54 : Shape := ⟨3, ![2048, 16, 54]⟩
abbrev S32x2048x54 : Shape := ⟨3, ![32, 2048, 54]⟩
abbrev S2048x32x54 : Shape := ⟨3, ![2048, 32, 54]⟩
abbrev S2048x32x27x2 : Shape := ⟨4, ![2048, 32, 27, 2]⟩
abbrev S2048x32x27 : Shape := ⟨3, ![2048, 32, 27]⟩
abbrev S2048x32x201 : Shape := ⟨3, ![2048, 32, 201]⟩
abbrev S2048x6432 : Shape := ⟨2, ![2048, 6432]⟩
abbrev S1x6432 : Shape := ⟨2, ![1, 6432]⟩
abbrev S6432x5 : Shape := ⟨2, ![6432, 5]⟩
abbrev S2048x5 : Shape := ⟨2, ![2048, 5]⟩
abbrev S1x5 : Shape := ⟨2, ![1, 5]⟩

abbrev nBuf : Space → Nat
  | .hbm => 312
  | .vmem => 0
  | .smem => 0
  | _ => 0

abbrev hbmTy0_0 (i : Nat) : BufTy := match i % 128 with
  | 0 => ⟨S2048x4x480, .f32⟩
  | 1 => ⟨S16x4x5, .f32⟩
  | 2 => ⟨S16, .f32⟩
  | 3 => ⟨S32x16x5, .f32⟩
  | 4 => ⟨S32, .f32⟩
  | 5 => ⟨S6432x6432, .f32⟩
  | 6 => ⟨S6432, .f32⟩
  | 7 => ⟨S5x6432, .f32⟩
  | 8 => ⟨S5, .f32⟩
  | 9 => ⟨S2048x4x480x1, .f32⟩
  | 10 => ⟨S_, .f32⟩
  | 11 => ⟨S2048x4x480, .f32⟩
  | 12 => ⟨S_, .f32⟩
  | 13 => ⟨S2048x4x480, .f32⟩
  | 14 => ⟨S2048x4x480, .f32⟩
  | 15 => ⟨S2048x4x476, .f32⟩
  | 16 => ⟨S16x4x1, .f32⟩
  | 17 => ⟨S16x4, .f32⟩
  | 18 => ⟨S16x2048x476, .f32⟩
  | 19 => ⟨S2048x16x476, .f32⟩
  | 20 => ⟨S_, .f32⟩
  | 21 => ⟨S2048x16x476, .f32⟩
  | 22 => ⟨S2048x16x476, .f32⟩
  | 23 => ⟨S2048x4x476, .f32⟩
  | 24 => ⟨S16x4x1, .f32⟩
  | 25 => ⟨S16x4, .f32⟩
  | 26 => ⟨S16x2048x476, .f32⟩
  | 27 => ⟨S2048x16x476, .f32⟩
  | 28 => ⟨S2048x16x476, .f32⟩
  | 29 => ⟨S2048x4x476, .f32⟩
  | 30 => ⟨S16x4x1, .f32⟩
  | 31 => ⟨S16x4, .f32⟩
  | 32 => ⟨S16x2048x476, .f32⟩
  | 33 => ⟨S2048x16x476, .f32⟩
  | 34 => ⟨S2048x16x476, .f32⟩
  | 35 => ⟨S2048x4x476, .f32⟩
  | 36 => ⟨S16x4x1, .f32⟩
  | 37 => ⟨S16x4, .f32⟩
  | 38 => ⟨S16x2048x476, .f32⟩
  | 39 => ⟨S2048x16x476, .f32⟩
  | 40 => ⟨S2048x16x476, .f32⟩
  | 41 => ⟨S2048x4x476, .f32⟩
  | 42 => ⟨S16x4x1, .f32⟩
  | 43 => ⟨S16x4, .f32⟩
  | 44 => ⟨S16x2048x476, .f32⟩
  | 45 => ⟨S2048x16x476, .f32⟩
  | 46 => ⟨S2048x16x476, .f32⟩
  | 47 => ⟨S1x16x1, .f32⟩
  | 48 => ⟨S2048x16x476, .f32⟩
  | 49 => ⟨S2048x16x476, .f32⟩
  | 50 => ⟨S_, .f32⟩
  | 51 => ⟨S2048x16x476, .f32⟩
  | 52 => ⟨S2048x16x476, .f32⟩
  | 53 => ⟨S2048x16x238x2, .f32⟩
  | 54 => ⟨S_, .f32⟩
  | 55 => ⟨S2048x16x238, .f32⟩
  | 56 => ⟨S2048x16x234, .f32⟩
  | 57 => ⟨S32x16x1, .f32⟩
  | 58 => ⟨S32x16, .f32⟩
  | 59 => ⟨S32x2048x234, .f32⟩
  | 60 => ⟨S2048x32x234, .f32⟩
  | 61 => ⟨S_, .f32⟩
  | 62 => ⟨S2048x32x234, .f32⟩
  | 63 => ⟨S2048x32x234, .f32⟩
  | 64 => ⟨S2048x16x234, .f32⟩
  | 65 => ⟨S32x16x1, .f32⟩
  | 66 => ⟨S32x16, .f32⟩
  | 67 => ⟨S32x2048x234, .f32⟩
  | 68 => ⟨S2048x32x234, .f32⟩
  | 69 => ⟨S2048x32x234, .f32⟩
  | 70 => ⟨S2048x16x234, .f32⟩
  | 71 => ⟨S32x16x1, .f32⟩
  | 72 => ⟨S32x16, .f32⟩
  | 73 => ⟨S32x2048x234, .f32⟩
  | 74 => ⟨S2048x32x234, .f32⟩
  | 75 => ⟨S2048x32x234, .f32⟩
  | 76 => ⟨S2048x16x234, .f32⟩
  | 77 => ⟨S32x16x1, .f32⟩
  | 78 => ⟨S32x16, .f32⟩
  | 79 => ⟨S32x2048x234, .f32⟩
  | 80 => ⟨S2048x32x234, .f32⟩
  | 81 => ⟨S2048x32x234, .f32⟩
  | 82 => ⟨S2048x16x234, .f32⟩
  | 83 => ⟨S32x16x1, .f32⟩
  | 84 => ⟨S32x16, .f32⟩
  | 85 => ⟨S32x2048x234, .f32⟩
  | 86 => ⟨S2048x32x234, .f32⟩
  | 87 => ⟨S2048x32x234, .f32⟩
  | 88 => ⟨S1x32x1, .f32⟩
  | 89 => ⟨S2048x32x234, .f32⟩
  | 90 => ⟨S2048x32x234, .f32⟩
  | 91 => ⟨S_, .f32⟩
  | 92 => ⟨S2048x32x234, .f32⟩
  | 93 => ⟨S2048x32x234, .f32⟩
  | 94 => ⟨S2048x32x117x2, .f32⟩
  | 95 => ⟨S_, .f32⟩
  | 96 => ⟨S2048x32x117, .f32⟩
  | 97 => ⟨S2048x4x240x2, .f32⟩
  | 98 => ⟨S_, .f32⟩
  | 99 => ⟨S2048x4x240, .f32⟩
  | 100 => ⟨S_, .f32⟩
  | 101 => ⟨S2048x4x240, .f32⟩
  | 102 => ⟨S2048x4x240, .f32⟩
  | 103 => ⟨S2048x4x236, .f32⟩
  | 104 => ⟨S16x4x1, .f32⟩
  | 105 => ⟨S16x4, .f32⟩
  | 106 => ⟨S16x2048x236, .f32⟩
  | 107 => ⟨S2048x16x236, .f32⟩
  | 108 => ⟨S_, .f32⟩
  | 109 => ⟨S2048x16x236, .f32⟩
  | 110 => ⟨S2048x16x236, .f32⟩
  | 111 => ⟨S2048x4x236, .f32⟩
  | 112 => ⟨S16x4x1, .f32⟩
  | 113 => ⟨S16x4, .f32⟩
  | 114 => ⟨S16x2048x236, .f32⟩
  | 115 => ⟨S2048x16x236, .f32⟩
  | 116 => ⟨S2048x16x236, .f32⟩
  | 117 => ⟨S2048x4x236, .f32⟩
  | 118 => ⟨S16x4x1, .f32⟩
  | 119 => ⟨S16x4, .f32⟩
  | 120 => ⟨S16x2048x236, .f32⟩
  | 121 => ⟨S2048x16x236, .f32⟩
  | 122 => ⟨S2048x16x236, .f32⟩
  | 123 => ⟨S2048x4x236, .f32⟩
  | 124 => ⟨S16x4x1, .f32⟩
  | 125 => ⟨S16x4, .f32⟩
  | 126 => ⟨S16x2048x236, .f32⟩
  | 127 => ⟨S2048x16x236, .f32⟩
  | _ => ⟨S2048x4x480, .f32⟩

abbrev hbmTy0_1 (i : Nat) : BufTy := match i % 128 with
  | 0 => ⟨S2048x16x236, .f32⟩
  | 1 => ⟨S2048x4x236, .f32⟩
  | 2 => ⟨S16x4x1, .f32⟩
  | 3 => ⟨S16x4, .f32⟩
  | 4 => ⟨S16x2048x236, .f32⟩
  | 5 => ⟨S2048x16x236, .f32⟩
  | 6 => ⟨S2048x16x236, .f32⟩
  | 7 => ⟨S1x16x1, .f32⟩
  | 8 => ⟨S2048x16x236, .f32⟩
  | 9 => ⟨S2048x16x236, .f32⟩
  | 10 => ⟨S_, .f32⟩
  | 11 => ⟨S2048x16x236, .f32⟩
  | 12 => ⟨S2048x16x236, .f32⟩
  | 13 => ⟨S2048x16x118x2, .f32⟩
  | 14 => ⟨S_, .f32⟩
  | 15 => ⟨S2048x16x118, .f32⟩
  | 16 => ⟨S2048x16x114, .f32⟩
  | 17 => ⟨S32x16x1, .f32⟩
  | 18 => ⟨S32x16, .f32⟩
  | 19 => ⟨S32x2048x114, .f32⟩
  | 20 => ⟨S2048x32x114, .f32⟩
  | 21 => ⟨S_, .f32⟩
  | 22 => ⟨S2048x32x114, .f32⟩
  | 23 => ⟨S2048x32x114, .f32⟩
  | 24 => ⟨S2048x16x114, .f32⟩
  | 25 => ⟨S32x16x1, .f32⟩
  | 26 => ⟨S32x16, .f32⟩
  | 27 => ⟨S32x2048x114, .f32⟩
  | 28 => ⟨S2048x32x114, .f32⟩
  | 29 => ⟨S2048x32x114, .f32⟩
  | 30 => ⟨S2048x16x114, .f32⟩
  | 31 => ⟨S32x16x1, .f32⟩
  | 32 => ⟨S32x16, .f32⟩
  | 33 => ⟨S32x2048x114, .f32⟩
  | 34 => ⟨S2048x32x114, .f32⟩
  | 35 => ⟨S2048x32x114, .f32⟩
  | 36 => ⟨S2048x16x114, .f32⟩
  | 37 => ⟨S32x16x1, .f32⟩
  | 38 => ⟨S32x16, .f32⟩
  | 39 => ⟨S32x2048x114, .f32⟩
  | 40 => ⟨S2048x32x114, .f32⟩
  | 41 => ⟨S2048x32x114, .f32⟩
  | 42 => ⟨S2048x16x114, .f32⟩
  | 43 => ⟨S32x16x1, .f32⟩
  | 44 => ⟨S32x16, .f32⟩
  | 45 => ⟨S32x2048x114, .f32⟩
  | 46 => ⟨S2048x32x114, .f32⟩
  | 47 => ⟨S2048x32x114, .f32⟩
  | 48 => ⟨S1x32x1, .f32⟩
  | 49 => ⟨S2048x32x114, .f32⟩
  | 50 => ⟨S2048x32x114, .f32⟩
  | 51 => ⟨S_, .f32⟩
  | 52 => ⟨S2048x32x114, .f32⟩
  | 53 => ⟨S2048x32x114, .f32⟩
  | 54 => ⟨S2048x32x57x2, .f32⟩
  | 55 => ⟨S_, .f32⟩
  | 56 => ⟨S2048x32x57, .f32⟩
  | 57 => ⟨S2048x4x120x4, .f32⟩
  | 58 => ⟨S_, .f32⟩
  | 59 => ⟨S2048x4x120, .f32⟩
  | 60 => ⟨S_, .f32⟩
  | 61 => ⟨S2048x4x120, .f32⟩
  | 62 => ⟨S2048x4x120, .f32⟩
  | 63 => ⟨S2048x4x116, .f32⟩
  | 64 => ⟨S16x4x1, .f32⟩
  | 65 => ⟨S16x4, .f32⟩
  | 66 => ⟨S16x2048x116, .f32⟩
  | 67 => ⟨S2048x16x116, .f32⟩
  | 68 => ⟨S_, .f32⟩
  | 69 => ⟨S2048x16x116, .f32⟩
  | 70 => ⟨S2048x16x116, .f32⟩
  | 71 => ⟨S2048x4x116, .f32⟩
  | 72 => ⟨S16x4x1, .f32⟩
  | 73 => ⟨S16x4, .f32⟩
  | 74 => ⟨S16x2048x116, .f32⟩
  | 75 => ⟨S2048x16x116, .f32⟩
  | 76 => ⟨S2048x16x116, .f32⟩
  | 77 => ⟨S2048x4x116, .f32⟩
  | 78 => ⟨S16x4x1, .f32⟩
  | 79 => ⟨S16x4, .f32⟩
  | 80 => ⟨S16x2048x116, .f32⟩
  | 81 => ⟨S2048x16x116, .f32⟩
  | 82 => ⟨S2048x16x116, .f32⟩
  | 83 => ⟨S2048x4x116, .f32⟩
  | 84 => ⟨S16x4x1, .f32⟩
  | 85 => ⟨S16x4, .f32⟩
  | 86 => ⟨S16x2048x116, .f32⟩
  | 87 => ⟨S2048x16x116, .f32⟩
  | 88 => ⟨S2048x16x116, .f32⟩
  | 89 => ⟨S2048x4x116, .f32⟩
  | 90 => ⟨S16x4x1, .f32⟩
  | 91 => ⟨S16x4, .f32⟩
  | 92 => ⟨S16x2048x116, .f32⟩
  | 93 => ⟨S2048x16x116, .f32⟩
  | 94 => ⟨S2048x16x116, .f32⟩
  | 95 => ⟨S1x16x1, .f32⟩
  | 96 => ⟨S2048x16x116, .f32⟩
  | 97 => ⟨S2048x16x116, .f32⟩
  | 98 => ⟨S_, .f32⟩
  | 99 => ⟨S2048x16x116, .f32⟩
  | 100 => ⟨S2048x16x116, .f32⟩
  | 101 => ⟨S2048x16x58x2, .f32⟩
  | 102 => ⟨S_, .f32⟩
  | 103 => ⟨S2048x16x58, .f32⟩
  | 104 => ⟨S2048x16x54, .f32⟩
  | 105 => ⟨S32x16x1, .f32⟩
  | 106 => ⟨S32x16, .f32⟩
  | 107 => ⟨S32x2048x54, .f32⟩
  | 108 => ⟨S2048x32x54, .f32⟩
  | 109 => ⟨S_, .f32⟩
  | 110 => ⟨S2048x32x54, .f32⟩
  | 111 => ⟨S2048x32x54, .f32⟩
  | 112 => ⟨S2048x16x54, .f32⟩
  | 113 => ⟨S32x16x1, .f32⟩
  | 114 => ⟨S32x16, .f32⟩
  | 115 => ⟨S32x2048x54, .f32⟩
  | 116 => ⟨S2048x32x54, .f32⟩
  | 117 => ⟨S2048x32x54, .f32⟩
  | 118 => ⟨S2048x16x54, .f32⟩
  | 119 => ⟨S32x16x1, .f32⟩
  | 120 => ⟨S32x16, .f32⟩
  | 121 => ⟨S32x2048x54, .f32⟩
  | 122 => ⟨S2048x32x54, .f32⟩
  | 123 => ⟨S2048x32x54, .f32⟩
  | 124 => ⟨S2048x16x54, .f32⟩
  | 125 => ⟨S32x16x1, .f32⟩
  | 126 => ⟨S32x16, .f32⟩
  | 127 => ⟨S32x2048x54, .f32⟩
  | _ => ⟨S2048x4x480, .f32⟩

abbrev hbmTy0_2 (i : Nat) : BufTy := match i % 128 with
  | 0 => ⟨S2048x32x54, .f32⟩
  | 1 => ⟨S2048x32x54, .f32⟩
  | 2 => ⟨S2048x16x54, .f32⟩
  | 3 => ⟨S32x16x1, .f32⟩
  | 4 => ⟨S32x16, .f32⟩
  | 5 => ⟨S32x2048x54, .f32⟩
  | 6 => ⟨S2048x32x54, .f32⟩
  | 7 => ⟨S2048x32x54, .f32⟩
  | 8 => ⟨S1x32x1, .f32⟩
  | 9 => ⟨S2048x32x54, .f32⟩
  | 10 => ⟨S2048x32x54, .f32⟩
  | 11 => ⟨S_, .f32⟩
  | 12 => ⟨S2048x32x54, .f32⟩
  | 13 => ⟨S2048x32x54, .f32⟩
  | 14 => ⟨S2048x32x27x2, .f32⟩
  | 15 => ⟨S_, .f32⟩
  | 16 => ⟨S2048x32x27, .f32⟩
  | 17 => ⟨S2048x32x201, .f32⟩
  | 18 => ⟨S2048x6432, .f32⟩
  | 19 => ⟨S6432x6432, .f32⟩
  | 20 => ⟨S2048x6432, .f32⟩
  | 21 => ⟨S1x6432, .f32⟩
  | 22 => ⟨S2048x6432, .f32⟩
  | 23 => ⟨S2048x6432, .f32⟩
  | 24 => ⟨S_, .f32⟩
  | 25 => ⟨S2048x6432, .f32⟩
  | 26 => ⟨S2048x6432, .f32⟩
  | 27 => ⟨S6432x6432, .f32⟩
  | 28 => ⟨S2048x6432, .f32⟩
  | 29 => ⟨S1x6432, .f32⟩
  | 30 => ⟨S2048x6432, .f32⟩
  | 31 => ⟨S2048x6432, .f32⟩
  | 32 => ⟨S_, .f32⟩
  | 33 => ⟨S2048x6432, .f32⟩
  | 34 => ⟨S2048x6432, .f32⟩
  | 35 => ⟨S6432x6432, .f32⟩
  | 36 => ⟨S2048x6432, .f32⟩
  | 37 => ⟨S1x6432, .f32⟩
  | 38 => ⟨S2048x6432, .f32⟩
  | 39 => ⟨S2048x6432, .f32⟩
  | 40 => ⟨S_, .f32⟩
  | 41 => ⟨S2048x6432, .f32⟩
  | 42 => ⟨S2048x6432, .f32⟩
  | 43 => ⟨S6432x6432, .f32⟩
  | 44 => ⟨S2048x6432, .f32⟩
  | 45 => ⟨S1x6432, .f32⟩
  | 46 => ⟨S2048x6432, .f32⟩
  | 47 => ⟨S2048x6432, .f32⟩
  | 48 => ⟨S_, .f32⟩
  | 49 => ⟨S2048x6432, .f32⟩
  | 50 => ⟨S2048x6432, .f32⟩
  | 51 => ⟨S6432x5, .f32⟩
  | 52 => ⟨S2048x5, .f32⟩
  | 53 => ⟨S1x5, .f32⟩
  | 54 => ⟨S2048x5, .f32⟩
  | 55 => ⟨S2048x5, .f32⟩
  | _ => ⟨S2048x4x480, .f32⟩

abbrev hbmTy (i : Nat) : BufTy := match i / 128 with
  | 0 => hbmTy0_0 i
  | 1 => hbmTy0_1 i
  | 2 => hbmTy0_2 i
  | _ => ⟨S2048x4x480, .f32⟩

abbrev bufTy : (tb : Table) → Fin (tcTables nBuf tb) → BufTy
  | .hbm, ⟨i, _⟩ => hbmTy i
  | _, _ => ⟨S2048x4x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_call1_cst : Ref sig .tc := ⟨.hbm, 91, rfl⟩
abbrev main_call1_v0 : Ref sig .tc := ⟨.hbm, 92, rfl⟩
abbrev main_v75 : Ref sig .tc := ⟨.hbm, 93, rfl⟩
abbrev main_v76 : Ref sig .tc := ⟨.hbm, 94, rfl⟩
abbrev main_cst_4 : Ref sig .tc := ⟨.hbm, 95, rfl⟩
abbrev main_v77 : Ref sig .tc := ⟨.hbm, 96, rfl⟩
abbrev main_v78 : Ref sig .tc := ⟨.hbm, 97, rfl⟩
abbrev main_cst_5 : Ref sig .tc := ⟨.hbm, 98, rfl⟩
abbrev main_v79 : Ref sig .tc := ⟨.hbm, 99, rfl⟩
abbrev main_cst_6 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_7 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_call2_cst : Ref sig .tc := ⟨.hbm, 138, rfl⟩
abbrev main_call2_v0 : Ref sig .tc := ⟨.hbm, 139, rfl⟩
abbrev main_v116 : Ref sig .tc := ⟨.hbm, 140, rfl⟩
abbrev main_v117 : Ref sig .tc := ⟨.hbm, 141, rfl⟩
abbrev main_cst_8 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_9 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_call3_cst : Ref sig .tc := ⟨.hbm, 179, rfl⟩
abbrev main_call3_v0 : Ref sig .tc := ⟨.hbm, 180, rfl⟩
abbrev main_v153 : Ref sig .tc := ⟨.hbm, 181, rfl⟩
abbrev main_v154 : Ref sig .tc := ⟨.hbm, 182, rfl⟩
abbrev main_cst_10 : Ref sig .tc := ⟨.hbm, 183, rfl⟩
abbrev main_v155 : Ref sig .tc := ⟨.hbm, 184, rfl⟩
abbrev main_v156 : Ref sig .tc := ⟨.hbm, 185, rfl⟩
abbrev main_cst_11 : Ref sig .tc := ⟨.hbm, 186, rfl⟩
abbrev main_v157 : Ref sig .tc := ⟨.hbm, 187, rfl⟩
abbrev main_cst_12 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_13 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_call4_cst : Ref sig .tc := ⟨.hbm, 226, rfl⟩
abbrev main_call4_v0 : Ref sig .tc := ⟨.hbm, 227, rfl⟩
abbrev main_v194 : Ref sig .tc := ⟨.hbm, 228, rfl⟩
abbrev main_v195 : Ref sig .tc := ⟨.hbm, 229, rfl⟩
abbrev main_cst_14 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_cst_15 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_call5_cst : Ref sig .tc := ⟨.hbm, 267, rfl⟩
abbrev main_call5_v0 : Ref sig .tc := ⟨.hbm, 268, rfl⟩
abbrev main_v231 : Ref sig .tc := ⟨.hbm, 269, rfl⟩
abbrev main_v232 : Ref sig .tc := ⟨.hbm, 270, rfl⟩
abbrev main_cst_16 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_call6_cst : Ref sig .tc := ⟨.hbm, 280, rfl⟩
abbrev main_call6_v0 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_call7_cst : Ref sig .tc := ⟨.hbm, 288, rfl⟩
abbrev main_call7_v0 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_call8_cst : Ref sig .tc := ⟨.hbm, 296, rfl⟩
abbrev main_call8_v0 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_call9_cst : Ref sig .tc := ⟨.hbm, 304, rfl⟩
abbrev main_call9_v0 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩

abbrev nD : Nat := 1
abbrev τ : Topo := Topo.v7x

variable {F : FTy → Type} [FloatOps F]
-- ==== Proof.Spec.lean ====
module

public import Idealize.ShloMosaic.Lib.Pointwise

@[expose] public section

set_option maxRecDepth 16384

noncomputable section

/- What both programs compute, written once over natural-number coordinates: a multi-scale pair of
   convolutions with max-pooling (`feat`), and dense layers (`dense`). -/
namespace Cert.Feat

open Idealize.ShloMosaic Idealize.ShloMosaic.TcCoe Idealize.SL.Sem

/-- A vector read at a natural number, zero outside its range. -/
def rd1 {n : ℕ} {φ : FTy} (x : FVec Ideal ⟨1, ![n]⟩ φ) (a : ℕ) : EReal :=
  if h : a < n then x (ix1 ⟨a, h⟩) else 0

/-- A matrix read at natural numbers, zero outside its range. -/
def rd2 {n p : ℕ} {φ : FTy} (x : FVec Ideal ⟨2, ![n, p]⟩ φ) (a b : ℕ) : EReal :=
  if h : a < n ∧ b < p then x (ix2 ⟨a, h.1⟩ ⟨b, h.2⟩) else 0

/-- A rank-three array read at natural numbers, zero outside its range. -/
def rd3 {n p q : ℕ} {φ : FTy} (x : FVec Ideal ⟨3, ![n, p, q]⟩ φ) (a b c : ℕ) : EReal :=
  if h : a < n ∧ b < p ∧ c < q then x (ix3 ⟨a, h.1⟩ ⟨b, h.2.1⟩ ⟨c, h.2.2⟩) else 0

/-- Inside its range a vector is read at the coordinate itself. -/
theorem rd1_fin {n : ℕ} {φ : FTy} (x : FVec Ideal ⟨1, ![n]⟩ φ) (a : Fin n) :
    x (ix1 a) = rd1 x a := by
  unfold rd1; rw [dif_pos a.isLt]

/-- Inside its range a matrix is read at the coordinates themselves. -/
theorem rd2_fin {n p : ℕ} {φ : FTy} (x : FVec Ideal ⟨2, ![n, p]⟩ φ) (a : Fin n) (b : Fin p) :
    x (ix2 a b) = rd2 x a b := by
  unfold rd2; rw [dif_pos ⟨a.isLt, b.isLt⟩]

/-- Inside its range a rank-three array is read at the coordinates themselves. -/
theorem rd3_fin {n p q : ℕ} {φ : FTy} (x : FVec Ideal ⟨3, ![n, p, q]⟩ φ) (a : Fin n) (b : Fin p)
    (c : Fin q) : x (ix3 a b c) = rd3 x a b c := by
  unfold rd3; rw [dif_pos ⟨a.isLt, b.isLt, c.isLt⟩]

/-- The first convolution: 4 input channels, 5 taps, and a bias. -/
def conv1 (w : ℕ → ℕ → ℕ → EReal) (b : ℕ → EReal) (g : ℕ → ℕ → EReal) (o l : ℕ) : EReal :=
  b o + ∑ c : Fin 4, ∑ k : Fin 5, w o c k * g c (l + k)

/-- The second convolution: 16 input channels, 5 taps, and a bias. -/
def conv2 (w : ℕ → ℕ → ℕ → EReal) (b : ℕ → EReal) (y : ℕ → ℕ → EReal) (o l : ℕ) : EReal :=
  b o + ∑ k : Fin 5, ∑ c : Fin 16, w o c k * y c (l + k)

/-- The larger of two neighbours after clamping at zero, folded from the pattern of minus infinity. -/
def maxPair (f : ℕ → EReal) (l : ℕ) : EReal :=
  Finset.univ.fold max (Ideal.ofBits .f32 0xFF800000#32) fun k : Fin 2 => max (f (l * 2 + k)) 0

/-- The sequence averaged over windows of `s`, the divisor being `d`. -/
def coarse (s : ℕ) (d : EReal) (x : ℕ → ℕ → EReal) (c l : ℕ) : EReal :=
  Ideal.div (∑ i : Fin s, x c (l * s + i)) d

/-- The first pooled activation. -/
def act1 (w1 : ℕ → ℕ → ℕ → EReal) (b1 : ℕ → EReal) (g : ℕ → ℕ → EReal) (c l : ℕ) : EReal :=
  maxPair (conv1 w1 b1 g c) l

/-- The second pooled activation. -/
def act2 (w1 : ℕ → ℕ → ℕ → EReal) (b1 : ℕ → EReal) (w2 : ℕ → ℕ → ℕ → EReal) (b2 : ℕ → EReal)
    (g : ℕ → ℕ → EReal) (o l : ℕ) : EReal :=
  maxPair (conv2 w2 b2 (act1 w1 b1 g) o) l

/-- The features of one sample: the three scales one after the other along the sequence. -/
def feat (w1 : ℕ → ℕ → ℕ → EReal) (b1 : ℕ → EReal) (w2 : ℕ → ℕ → ℕ → EReal) (b2 : ℕ → EReal)
    (x : ℕ → ℕ → EReal) (o p : ℕ) : EReal :=
  if p < 117 then act2 w1 b1 w2 b2 x o p
  else if p - 117 < 57 then
    act2 w1 b1 w2 b2 (coarse 2 (Ideal.ofBits .f32 0x40000000#32) x) o (p - 117)
  else act2 w1 b1 w2 b2 (coarse 4 (Ideal.ofBits .f32 0x40800000#32) x) o (p - 117 - 57)

/-- One dense layer with its bias, before clamping. -/
def affine (w : ℕ → ℕ → EReal) (b : ℕ → EReal) (h : ℕ → EReal) (i : ℕ) : EReal :=
  (∑ j : Fin 6432, w i j * h j) + b i

/-- One dense layer, clamped at zero. -/
def dense (w : ℕ → ℕ → EReal) (b : ℕ → EReal) (h : ℕ → EReal) (i : ℕ) : EReal :=
  max (affine w b h i) 0

/-- The whole network on one sample: features, four dense layers sharing their weights, the head. -/
def net (w1 : ℕ → ℕ → ℕ → EReal) (b1 : ℕ → EReal) (w2 : ℕ → ℕ → ℕ → EReal) (b2 : ℕ → EReal)
    (wl : ℕ → ℕ → EReal) (bl : ℕ → EReal) (wo : ℕ → ℕ → EReal) (bo : ℕ → EReal)
    (x : ℕ → ℕ → EReal) (i : ℕ) : EReal :=
  affine wo bo (dense wl bl (dense wl bl (dense wl bl (dense wl bl
    fun j => feat w1 b1 w2 b2 x (j / 201) (j % 201))))) i

/-- The first convolution as one sum per tap, the bias last. -/
theorem conv1_taps (w : ℕ → ℕ → ℕ → EReal) (b : ℕ → EReal) (g : ℕ → ℕ → EReal) (o l : ℕ) :
    conv1 w b g o l = ∑ c : Fin 4, w o c 0 * g c l + ∑ c : Fin 4, w o c 1 * g c (1 + l)
      + ∑ c : Fin 4, w o c 2 * g c (2 + l) + ∑ c : Fin 4, w o c 3 * g c (3 + l)
      + ∑ c : Fin 4, w o c 4 * g c (4 + l) + b o := by
  unfold conv1
  rw [Finset.sum_comm, Fin.sum_univ_five, add_comm (b o)]
  simp only [add_comm l]
  rw [show (((0 : Fin 5) : ℕ) + l) = l from Nat.zero_add l]
  rfl

/-- The first convolution term by term, the bias first. -/
theorem conv1_terms (w : ℕ → ℕ → ℕ → EReal) (b : ℕ → EReal) (g : ℕ → ℕ → EReal) (o l : ℕ) :
    conv1 w b g o l = b o + w o 0 0 * g 0 l + w o 0 1 * g 0 (1 + l) + w o 0 2 * g 0 (2 + l) + w o 0 3 * g 0 (3
      + l) + w o 0 4 * g 0 (4 + l) + w o 1 0 * g 1 l + w o 1 1 * g 1 (1 + l) + w o 1 2 * g 1
      (2 + l) + w o 1 3 * g 1 (3 + l) + w o 1 4 * g 1 (4 + l) + w o 2 0 * g 2 l + w o 2 1 * g
      2 (1 + l) + w o 2 2 * g 2 (2 + l) + w o 2 3 * g 2 (3 + l) + w o 2 4 * g 2 (4 + l) + w o
      3 0 * g 3 l + w o 3 1 * g 3 (1 + l) + w o 3 2 * g 3 (2 + l) + w o 3 3 * g 3 (3 + l) + w
      o 3 4 * g 3 (4 + l) := by
  unfold conv1
  simp only [add_comm l]
  simp only [Fin.sum_univ_four, Fin.sum_univ_five, ← add_assoc]
  rw [show (((0 : Fin 5) : ℕ) + l) = l from Nat.zero_add l]
  rfl

/-- The second convolution as one sum per tap, the bias last. -/
theorem conv2_taps (w : ℕ → ℕ → ℕ → EReal) (b : ℕ → EReal) (y : ℕ → ℕ → EReal) (o l : ℕ) :
    conv2 w b y o l = ∑ c : Fin 16, w o c 0 * y c l + ∑ c : Fin 16, w o c 1 * y c (1 + l)
      + ∑ c : Fin 16, w o c 2 * y c (2 + l) + ∑ c : Fin 16, w o c 3 * y c (3 + l)
      + ∑ c : Fin 16, w o c 4 * y c (4 + l) + b o := by
  unfold conv2
  rw [Fin.sum_univ_five, add_comm (b o)]
  simp only [add_comm l]
  rw [show (((0 : Fin 5) : ℕ) + l) = l from Nat.zero_add l]
  rfl

/-- The second convolution reads its activation only at the 16 channels. -/
theorem conv2_congr (w : ℕ → ℕ → ℕ → EReal) (b : ℕ → EReal) (y y' : ℕ → ℕ → EReal) (o l : ℕ)
    (h : ∀ (c : Fin 16) (k : Fin 5), y c (l + k) = y' c (l + k)) :
    conv2 w b y o l = conv2 w b y' o l := by
  unfold conv2
  exact congrArg _ (Finset.sum_congr rfl fun k _ => Finset.sum_congr rfl fun c _ => by rw [h c k])

/-- Pooling reads two neighbours. -/
theorem maxPair_congr (f f' : ℕ → EReal) (l : ℕ) (h : ∀ k : Fin 2, f (l * 2 + k) = f' (l * 2 + k)) :
    maxPair f l = maxPair f' l := by
  unfold maxPair
  exact congrArg (Finset.univ.fold max _) (funext fun k => by rw [h k])

/-- A dense layer reads its input at 6432 coordinates. -/
theorem affine_congr (w : ℕ → ℕ → EReal) (b h h' : ℕ → EReal) (i : ℕ)
    (e : ∀ j : Fin 6432, h j = h' j) : affine w b h i = affine w b h' i := by
  unfold affine
  exact congrArg (· + b i) (Finset.sum_congr rfl fun j _ => by rw [e j])

end Cert.Feat

end
-- ==== Proof.KRun.lean ====
module

public import proofs.«01_k».proof.Proof.Spec
public import proofs.«01_k».proof.Proof.Gen.KernelIdeal.Frame

@[expose] public section

set_option maxRecDepth 16384

noncomputable section

/- The kernel runs, and its result buffer ends at the contents of the last boundary. -/
namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters the kernel terminates; its result buffer holds what the last
    host stretch leaves there, and its arguments are as launched. -/
theorem run : θ_run defs (onTc (τ := τ) (main (F := Ideal))) ⟨m, fun _ => 0, ρ⟩ (fun r => ∀ c : Dev nD,
      r.2.mem ((c.tc : Thread nD τ).loc main_v0) = W10 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Run

end
-- ==== Proof.Band.lean ====
module

public import proofs.«01_k».proof.Proof.Spec

@[expose] public section

noncomputable section

/- A product with a banded matrix is a convolution. -/
namespace Cert.Feat

open Idealize.ShloMosaic

/-- The band of width five: entry `(t, o), (u, c)` is tap `u - t` of the weights, zero elsewhere. -/
def IsBand (T : ℕ) (m : ℕ → ℕ → EReal) (w : ℕ → ℕ → ℕ → EReal) : Prop :=
  ∀ (t : Fin T) (o : Fin 32) (u : Fin (T + 4)) (c : Fin 16),
    m (t * 32 + o) (u * 16 + c) = ∑ k : Fin 5, if (u : ℕ) = t + k then w o c k else 0

/-- A sum with at most one nonzero term is scaled term by term. -/
theorem sum_pick_mul (u t : ℕ) (w : ℕ → EReal) (y : EReal) :
    (∑ k : Fin 5, if u = t + k then w k else 0) * y
      = ∑ k : Fin 5, if u = t + k then w k * y else 0 := by
  by_cases h : ∃ k : Fin 5, u = t + k
  · obtain ⟨k, rfl⟩ := h
    have e : ∀ j : Fin 5, j ≠ k → ¬(t + (k : ℕ) = t + (j : ℕ)) := fun j hj hh =>
      hj (Fin.ext (by omega))
    rw [Finset.sum_eq_single k (fun j _ hj => if_neg (e j hj)) (fun hk => absurd (Finset.mem_univ k) hk),
      Finset.sum_eq_single k (fun j _ hj => if_neg (e j hj)) (fun hk => absurd (Finset.mem_univ k) hk),
      if_pos rfl, if_pos rfl]
  · have e : ∀ j : Fin 5, ¬(u = t + (j : ℕ)) := fun j hj => h ⟨j, hj⟩
    rw [Finset.sum_eq_zero (fun j _ => if_neg (e j)), Finset.sum_eq_zero (fun j _ => if_neg (e j)),
      zero_mul]

/-- Row `(t, o)` of the band against the rows of `y` from `base` on: the five-tap sum at `base + t`. -/
theorem band_sum {T n : ℕ} (hn : n = (T + 4) * 16) {m : ℕ → ℕ → EReal} {w : ℕ → ℕ → ℕ → EReal}
    (hm : IsBand T m w) (y : ℕ → EReal) (base : ℕ) (t : Fin T) (o : Fin 32) :
    ∑ q : Fin n, m (t * 32 + o) q * y (base * 16 + q)
      = ∑ k : Fin 5, ∑ c : Fin 16, w o c k * y ((base + t + k) * 16 + c) := by
  rw [Fin.sum_univ_tiles (T + 4) 16 hn.symm]
  have e : ∀ (u : Fin (T + 4)) (c : Fin 16),
      m (t * 32 + o) (u * 16 + c) * y (base * 16 + (u * 16 + c))
        = ∑ k : Fin 5, if (u : ℕ) = t + k then w o c k * y ((base + u) * 16 + c) else 0 := by
    intro u c
    rw [hm t o u c, sum_pick_mul (u : ℕ) t (fun k => w o c k), ← add_assoc, ← Nat.add_mul]
  have e2 : ∀ (k : Fin 5) (c : Fin 16),
      (∑ u : Fin (T + 4), if (u : ℕ) = t + k then w o c k * y ((base + u) * 16 + c) else 0)
        = w o c k * y ((base + t + k) * 16 + c) := by
    intro k c
    have hlt : (t : ℕ) + k < T + 4 := by have := t.isLt; have := k.isLt; omega
    rw [Finset.sum_eq_single (⟨t + k, hlt⟩ : Fin (T + 4))
      (fun u _ hu => if_neg fun h => hu (Fin.ext h))
      (fun hk => absurd (Finset.mem_univ _) hk), if_pos rfl, ← add_assoc]
  calc _ = ∑ u : Fin (T + 4), ∑ c : Fin 16, ∑ k : Fin 5,
        if (u : ℕ) = t + k then w o c k * y ((base + u) * 16 + c) else 0 :=
        Finset.sum_congr rfl fun u _ => Finset.sum_congr rfl fun c _ => e u c
    _ = ∑ c : Fin 16, ∑ u : Fin (T + 4), ∑ k : Fin 5,
        if (u : ℕ) = t + k then w o c k * y ((base + u) * 16 + c) else 0 := Finset.sum_comm
    _ = ∑ c : Fin 16, ∑ k : Fin 5, w o c k * y ((base + t + k) * 16 + c) :=
        Finset.sum_congr rfl fun c _ => by
          rw [Finset.sum_comm]; exact Finset.sum_congr rfl fun k _ => e2 k c
    _ = _ := Finset.sum_comm

end Cert.Feat

end
-- ==== Proof.Tables.lean ====
module

public import proofs.«01_k».proof.Proof.Band
public import proofs.«01_k».proof.Proof.Gen.KernelIdeal.Frame
public import Idealize.ShloMosaic.Lib.StableHlo.ReadAt

@[expose] public section

set_option maxRecDepth 16384

noncomputable section

/- The constant tables of the program: each picks the position some taps to the right. -/
namespace Cert.KernelIdeal.Tables

open Idealize.ShloMosaic Idealize.ShloMosaic.TcCoe Idealize.SL.Sem
open Cert.KernelIdeal Cert.KernelIdeal.Gen Cert.Feat

/-- A table entry, one where `P` holds and zero elsewhere, times `x`. -/
theorem pick {b : BitVec 32} {P : Prop} [Decidable P]
    (h : b = if P then 0x3F800000#32 else 0x00000000#32) (x : EReal) :
    Ideal.ofBits .f32 b * x = if P then x else 0 := by
  by_cases p : P
  · rw [if_pos p] at h
    rw [if_pos p, h, Idealize.ShloMosaic.Ideal.ofBits_one_f32, one_mul]
  · rw [if_neg p] at h
    rw [if_neg p, h, Idealize.ShloMosaic.Ideal.ofBits_zero_f32, zero_mul]

/-- Scale 1's table for tap 0 picks the position 0 to the right. -/
theorem tab1_0 (t : Fin 26) (u : Fin 30) (x : EReal) :
    Ideal.ofBits .f32 (lit0 (S26x30.rowMajor (ix2 t u))) * x
      = if (u : ℕ) = t + (0 : Fin 5) then x else 0 :=
  pick ((by decide +kernel : ∀ (t : Fin 26) (u : Fin 30), lit0 (S26x30.rowMajor (ix2 t u))
    = if (u : ℕ) = t + (0 : Fin 5) then 0x3F800000#32 else 0x00000000#32) t u) x

/-- Scale 1's table for tap 1 picks the position 1 to the right. -/
theorem tab1_1 (t : Fin 26) (u : Fin 30) (x : EReal) :
    Ideal.ofBits .f32 (lit1 (S26x30.rowMajor (ix2 t u))) * x
      = if (u : ℕ) = t + (1 : Fin 5) then x else 0 :=
  pick ((by decide +kernel : ∀ (t : Fin 26) (u : Fin 30), lit1 (S26x30.rowMajor (ix2 t u))
    = if (u : ℕ) = t + (1 : Fin 5) then 0x3F800000#32 else 0x00000000#32) t u) x

/-- Scale 1's table for tap 2 picks the position 2 to the right. -/
theorem tab1_2 (t : Fin 26) (u : Fin 30) (x : EReal) :
    Ideal.ofBits .f32 (lit2 (S26x30.rowMajor (ix2 t u))) * x
      = if (u : ℕ) = t + (2 : Fin 5) then x else 0 :=
  pick ((by decide +kernel : ∀ (t : Fin 26) (u : Fin 30), lit2 (S26x30.rowMajor (ix2 t u))
    = if (u : ℕ) = t + (2 : Fin 5) then 0x3F800000#32 else 0x00000000#32) t u) x

/-- Scale 1's table for tap 3 picks the position 3 to the right. -/
theorem tab1_3 (t : Fin 26) (u : Fin 30) (x : EReal) :
    Ideal.ofBits .f32 (lit3 (S26x30.rowMajor (ix2 t u))) * x
      = if (u : ℕ) = t + (3 : Fin 5) then x else 0 :=
  pick ((by decide +kernel : ∀ (t : Fin 26) (u : Fin 30), lit3 (S26x30.rowMajor (ix2 t u))
    = if (u : ℕ) = t + (3 : Fin 5) then 0x3F800000#32 else 0x00000000#32) t u) x

/-- Scale 1's table for tap 4 picks the position 4 to the right. -/
theorem tab1_4 (t : Fin 26) (u : Fin 30) (x : EReal) :
    Ideal.ofBits .f32 (lit4 (S26x30.rowMajor (ix2 t u))) * x
      = if (u : ℕ) = t + (4 : Fin 5) then x else 0 :=
  pick ((by decide +kernel : ∀ (t : Fin 26) (u : Fin 30), lit4 (S26x30.rowMajor (ix2 t u))
    = if (u : ℕ) = t + (4 : Fin 5) then 0x3F800000#32 else 0x00000000#32) t u) x

/-- Scale 2's table for tap 0 picks the position 0 to the right. -/
theorem tab2_0 (t : Fin 19) (u : Fin 23) (x : EReal) :
    Ideal.ofBits .f32 (lit5 (S19x23.rowMajor (ix2 t u))) * x
      = if (u : ℕ) = t + (0 : Fin 5) then x else 0 :=
  pick ((by decide +kernel : ∀ (t : Fin 19) (u : Fin 23), lit5 (S19x23.rowMajor (ix2 t u))
    = if (u : ℕ) = t + (0 : Fin 5) then 0x3F800000#32 else 0x00000000#32) t u) x

/-- Scale 2's table for tap 1 picks the position 1 to the right. -/
theorem tab2_1 (t : Fin 19) (u : Fin 23) (x : EReal) :
    Ideal.ofBits .f32 (lit6 (S19x23.rowMajor (ix2 t u))) * x
      = if (u : ℕ) = t + (1 : Fin 5) then x else 0 :=
  pick ((by decide +kernel : ∀ (t : Fin 19) (u : Fin 23), lit6 (S19x23.rowMajor (ix2 t u))
    = if (u : ℕ) = t + (1 : Fin 5) then 0x3F800000#32 else 0x00000000#32) t u) x

/-- Scale 2's table for tap 2 picks the position 2 to the right. -/
theorem tab2_2 (t : Fin 19) (u : Fin 23) (x : EReal) :
    Ideal.ofBits .f32 (lit7 (S19x23.rowMajor (ix2 t u))) * x
      = if (u : ℕ) = t + (2 : Fin 5) then x else 0 :=
  pick ((by decide +kernel : ∀ (t : Fin 19) (u : Fin 23), lit7 (S19x23.rowMajor (ix2 t u))
    = if (u : ℕ) = t + (2 : Fin 5) then 0x3F800000#32 else 0x00000000#32) t u) x

/-- Scale 2's table for tap 3 picks the position 3 to the right. -/
theorem tab2_3 (t : Fin 19) (u : Fin 23) (x : EReal) :
    Ideal.ofBits .f32 (lit8 (S19x23.rowMajor (ix2 t u))) * x
      = if (u : ℕ) = t + (3 : Fin 5) then x else 0 :=
  pick ((by decide +kernel : ∀ (t : Fin 19) (u : Fin 23), lit8 (S19x23.rowMajor (ix2 t u))
    = if (u : ℕ) = t + (3 : Fin 5) then 0x3F800000#32 else 0x00000000#32) t u) x

/-- Scale 2's table for tap 4 picks the position 4 to the right. -/
theorem tab2_4 (t : Fin 19) (u : Fin 23) (x : EReal) :
    Ideal.ofBits .f32 (lit9 (S19x23.rowMajor (ix2 t u))) * x
      = if (u : ℕ) = t + (4 : Fin 5) then x else 0 :=
  pick ((by decide +kernel : ∀ (t : Fin 19) (u : Fin 23), lit9 (S19x23.rowMajor (ix2 t u))
    = if (u : ℕ) = t + (4 : Fin 5) then 0x3F800000#32 else 0x00000000#32) t u) x

/-- Scale 4's table for tap 0 picks the position 0 to the right. -/
theorem tab4_0 (t : Fin 18) (u : Fin 22) (x : EReal) :
    Ideal.ofBits .f32 (lit10 (S18x22.rowMajor (ix2 t u))) * x
      = if (u : ℕ) = t + (0 : Fin 5) then x else 0 :=
  pick ((by decide +kernel : ∀ (t : Fin 18) (u : Fin 22), lit10 (S18x22.rowMajor (ix2 t u))
    = if (u : ℕ) = t + (0 : Fin 5) then 0x3F800000#32 else 0x00000000#32) t u) x

/-- Scale 4's table for tap 1 picks the position 1 to the right. -/
theorem tab4_1 (t : Fin 18) (u : Fin 22) (x : EReal) :
    Ideal.ofBits .f32 (lit11 (S18x22.rowMajor (ix2 t u))) * x
      = if (u : ℕ) = t + (1 : Fin 5) then x else 0 :=
  pick ((by decide +kernel : ∀ (t : Fin 18) (u : Fin 22), lit11 (S18x22.rowMajor (ix2 t u))
    = if (u : ℕ) = t + (1 : Fin 5) then 0x3F800000#32 else 0x00000000#32) t u) x

/-- Scale 4's table for tap 2 picks the position 2 to the right. -/
theorem tab4_2 (t : Fin 18) (u : Fin 22) (x : EReal) :
    Ideal.ofBits .f32 (lit12 (S18x22.rowMajor (ix2 t u))) * x
      = if (u : ℕ) = t + (2 : Fin 5) then x else 0 :=
  pick ((by decide +kernel : ∀ (t : Fin 18) (u : Fin 22), lit12 (S18x22.rowMajor (ix2 t u))
    = if (u : ℕ) = t + (2 : Fin 5) then 0x3F800000#32 else 0x00000000#32) t u) x

/-- Scale 4's table for tap 3 picks the position 3 to the right. -/
theorem tab4_3 (t : Fin 18) (u : Fin 22) (x : EReal) :
    Ideal.ofBits .f32 (lit13 (S18x22.rowMajor (ix2 t u))) * x
      = if (u : ℕ) = t + (3 : Fin 5) then x else 0 :=
  pick ((by decide +kernel : ∀ (t : Fin 18) (u : Fin 22), lit13 (S18x22.rowMajor (ix2 t u))
    = if (u : ℕ) = t + (3 : Fin 5) then 0x3F800000#32 else 0x00000000#32) t u) x

/-- Scale 4's table for tap 4 picks the position 4 to the right. -/
theorem tab4_4 (t : Fin 18) (u : Fin 22) (x : EReal) :
    Ideal.ofBits .f32 (lit14 (S18x22.rowMajor (ix2 t u))) * x
      = if (u : ℕ) = t + (4 : Fin 5) then x else 0 :=
  pick ((by decide +kernel : ∀ (t : Fin 18) (u : Fin 22), lit14 (S18x22.rowMajor (ix2 t u))
    = if (u : ℕ) = t + (4 : Fin 5) then 0x3F800000#32 else 0x00000000#32) t u) x

end Cert.KernelIdeal.Tables

end
-- ==== Proof.Host.lean ====
module

public import proofs.«01_k».proof.Proof.Band
public import proofs.«01_k».proof.Proof.Tables
public import proofs.«01_k».proof.Proof.Gen.KernelIdeal.Frame
public import Idealize.ShloMosaic.Lib.StableHlo.ReadAt

@[expose] public section

set_option maxRecDepth 16384

noncomputable section

/- The arguments, and what the first host stretch leaves for the feature kernel: the transposed samples,
   the weights and biases repeated along the lanes, and the second convolution as three band matrices. -/
namespace Cert.KernelIdeal.Host

open Idealize.ShloMosaic Idealize.ShloMosaic.TcCoe Idealize.SL.Sem
open Cert.KernelIdeal Cert.KernelIdeal.Gen Cert.Feat
open Cert.KernelIdeal.Tables

variable (m : (ℓ : Loc nD τ sig) → Buf (Elt Ideal) ℓ) (ρ : Dev nD → PrngReg) (c : Dev nD)

/-- Argument 0 as launched. -/
abbrev arg0 : FVec Ideal S2048x4x480 .f32 := m ((c : Thread nD τ).loc main_arg0)

/-- Argument 1 as launched. -/
abbrev arg1 : FVec Ideal S16x4x5 .f32 := m ((c : Thread nD τ).loc main_arg1)

/-- Argument 2 as launched. -/
abbrev arg2 : FVec Ideal S16 .f32 := m ((c : Thread nD τ).loc main_arg2)

/-- Argument 3 as launched. -/
abbrev arg3 : FVec Ideal S32x16x5 .f32 := m ((c : Thread nD τ).loc main_arg3)

/-- Argument 4 as launched. -/
abbrev arg4 : FVec Ideal S32 .f32 := m ((c : Thread nD τ).loc main_arg4)

/-- Argument 5 as launched. -/
abbrev arg5 : FVec Ideal S6432x6432 .f32 := m ((c : Thread nD τ).loc main_arg5)

/-- Argument 6 as launched. -/
abbrev arg6 : FVec Ideal S6432 .f32 := m ((c : Thread nD τ).loc main_arg6)

/-- Argument 7 as launched. -/
abbrev arg7 : FVec Ideal S5x6432 .f32 := m ((c : Thread nD τ).loc main_arg7)

/-- Argument 8 as launched. -/
abbrev arg8 : FVec Ideal S5 .f32 := m ((c : Thread nD τ).loc main_arg8)

/-- The samples, position first and sample last. -/
theorem samples_at (l : Fin 480) (d : Fin 4) (b : Fin 2048) :
    @Eq EReal ((W1 m ρ c (Proc.devRef .tc main_call0_v0) : FVec Ideal S480x4x2048 .f32) (ix3 l d b))
      (arg0 m c (ix3 b d l)) := by
  after_reads_at

/-- The first weights, input channel and tap first, the same in every lane. -/
theorem wgt1_at (j : Fin 20) (o : Fin 16) (b : Fin 128) :
    @Eq EReal ((W1 m ρ c (Proc.devRef .tc main_call0_v4) : FVec Ideal S20x16x128 .f32) (ix3 j o b))
      (rd3 (arg1 m c) o (j / 5) (j % 5)) := by
  after_reads_at
  exact rd3_fin (arg1 m c) _ _ _

/-- The first bias, the same in every lane. -/
theorem bias1_at (o : Fin 16) (b : Fin 128) :
    @Eq EReal ((W1 m ρ c (Proc.devRef .tc main_call0_v6) : FVec Ideal S16x128 .f32) (ix2 o b))
      (arg2 m c (ix1 o)) := by
  after_reads_at

/-- The second bias, the same in every lane. -/
theorem bias2_at (o : Fin 32) (b : Fin 128) :
    @Eq EReal ((W1 m ρ c (Proc.devRef .tc main_call0_v8) : FVec Ideal S32x128 .f32) (ix2 o b))
      (arg4 m c (ix1 o)) := by
  after_reads_at

set_option maxHeartbeats 2000000 in
/-- Scale 1's matrix: tap by tap, the weight where the column is that far right of the row. -/
theorem band1_at (r : Fin 832) (q : Fin 480) :
    @Eq EReal ((W1 m ρ c (Proc.devRef .tc main_call0_v50) : FVec Ideal S832x480 .f32) (ix2 r q))
      (∑ k : Fin 5, if (q : ℕ) / 16 = r / 32 + k then rd3 (arg3 m c) (r % 32) (q % 16) k else 0) := by
  after_reads_at
  refine Eq.trans ?_ (Fin.sum_univ_five _).symm
  have e := fun (o : Fin 32) (d : Fin 16) (k : Fin 5) => rd3_fin (arg3 m c) o d k
  exact congrArg₂ (· + ·) (congrArg₂ (· + ·) (congrArg₂ (· + ·) (congrArg₂ (· + ·)
    ((tab1_0 _ _ _).trans (congrArg (ite _ · 0) (e _ _ _)))
    ((tab1_1 _ _ _).trans (congrArg (ite _ · 0) (e _ _ _))))
    ((tab1_2 _ _ _).trans (congrArg (ite _ · 0) (e _ _ _))))
    ((tab1_3 _ _ _).trans (congrArg (ite _ · 0) (e _ _ _))))
    ((tab1_4 _ _ _).trans (congrArg (ite _ · 0) (e _ _ _)))

/-- Scale 1's matrix is the band of the second weights. -/
theorem isBand1 : IsBand 26
    (rd2 (φ := .f32) (n := 832) (p := 480) (W1 m ρ c (Proc.devRef .tc main_call0_v50)))
    (rd3 (arg3 m c)) := by
  intro t o u d
  have hr : (t : ℕ) * 32 + o < 832 := by omega
  have hq : (u : ℕ) * 16 + d < 480 := by omega
  have e := band1_at m ρ c ⟨_, hr⟩ ⟨_, hq⟩
  refine (rd2_fin (φ := .f32) (n := 832) (p := 480) (W1 m ρ c (Proc.devRef .tc main_call0_v50)) ⟨_, hr⟩
    ⟨_, hq⟩).symm.trans (e.trans (Finset.sum_congr rfl fun k _ => ?_))
  simp only [show ((u : ℕ) * 16 + d) / 16 = u by omega, show ((u : ℕ) * 16 + d) % 16 = d by omega,
    show ((t : ℕ) * 32 + o) / 32 = t by omega, show ((t : ℕ) * 32 + o) % 32 = o by omega]

set_option maxHeartbeats 2000000 in
/-- Scale 2's matrix: tap by tap, the weight where the column is that far right of the row. -/
theorem band2_at (r : Fin 608) (q : Fin 368) :
    @Eq EReal ((W1 m ρ c (Proc.devRef .tc main_call0_v92) : FVec Ideal S608x368 .f32) (ix2 r q))
      (∑ k : Fin 5, if (q : ℕ) / 16 = r / 32 + k then rd3 (arg3 m c) (r % 32) (q % 16) k else 0) := by
  after_reads_at
  refine Eq.trans ?_ (Fin.sum_univ_five _).symm
  have e := fun (o : Fin 32) (d : Fin 16) (k : Fin 5) => rd3_fin (arg3 m c) o d k
  exact congrArg₂ (· + ·) (congrArg₂ (· + ·) (congrArg₂ (· + ·) (congrArg₂ (· + ·)
    ((tab2_0 _ _ _).trans (congrArg (ite _ · 0) (e _ _ _)))
    ((tab2_1 _ _ _).trans (congrArg (ite _ · 0) (e _ _ _))))
    ((tab2_2 _ _ _).trans (congrArg (ite _ · 0) (e _ _ _))))
    ((tab2_3 _ _ _).trans (congrArg (ite _ · 0) (e _ _ _))))
    ((tab2_4 _ _ _).trans (congrArg (ite _ · 0) (e _ _ _)))

/-- Scale 2's matrix is the band of the second weights. -/
theorem isBand2 : IsBand 19
    (rd2 (φ := .f32) (n := 608) (p := 368) (W1 m ρ c (Proc.devRef .tc main_call0_v92)))
    (rd3 (arg3 m c)) := by
  intro t o u d
  have hr : (t : ℕ) * 32 + o < 608 := by omega
  have hq : (u : ℕ) * 16 + d < 368 := by omega
  have e := band2_at m ρ c ⟨_, hr⟩ ⟨_, hq⟩
  refine (rd2_fin (φ := .f32) (n := 608) (p := 368) (W1 m ρ c (Proc.devRef .tc main_call0_v92)) ⟨_, hr⟩
    ⟨_, hq⟩).symm.trans (e.trans (Finset.sum_congr rfl fun k _ => ?_))
  simp only [show ((u : ℕ) * 16 + d) / 16 = u by omega, show ((u : ℕ) * 16 + d) % 16 = d by omega,
    show ((t : ℕ) * 32 + o) / 32 = t by omega, show ((t : ℕ) * 32 + o) % 32 = o by omega]

set_option maxHeartbeats 2000000 in
/-- Scale 4's matrix: tap by tap, the weight where the column is that far right of the row. -/
theorem band4_at (r : Fin 576) (q : Fin 352) :
    @Eq EReal ((W1 m ρ c (Proc.devRef .tc main_call0_v134) : FVec Ideal S576x352 .f32) (ix2 r q))
      (∑ k : Fin 5, if (q : ℕ) / 16 = r / 32 + k then rd3 (arg3 m c) (r % 32) (q % 16) k else 0) := by
  after_reads_at
  refine Eq.trans ?_ (Fin.sum_univ_five _).symm
  have e := fun (o : Fin 32) (d : Fin 16) (k : Fin 5) => rd3_fin (arg3 m c) o d k
  exact congrArg₂ (· + ·) (congrArg₂ (· + ·) (congrArg₂ (· + ·) (congrArg₂ (· + ·)
    ((tab4_0 _ _ _).trans (congrArg (ite _ · 0) (e _ _ _)))
    ((tab4_1 _ _ _).trans (congrArg (ite _ · 0) (e _ _ _))))
    ((tab4_2 _ _ _).trans (congrArg (ite _ · 0) (e _ _ _))))
    ((tab4_3 _ _ _).trans (congrArg (ite _ · 0) (e _ _ _))))
    ((tab4_4 _ _ _).trans (congrArg (ite _ · 0) (e _ _ _)))

/-- Scale 4's matrix is the band of the second weights. -/
theorem isBand4 : IsBand 18
    (rd2 (φ := .f32) (n := 576) (p := 352) (W1 m ρ c (Proc.devRef .tc main_call0_v134)))
    (rd3 (arg3 m c)) := by
  intro t o u d
  have hr : (t : ℕ) * 32 + o < 576 := by omega
  have hq : (u : ℕ) * 16 + d < 352 := by omega
  have e := band4_at m ρ c ⟨_, hr⟩ ⟨_, hq⟩
  refine (rd2_fin (φ := .f32) (n := 576) (p := 352) (W1 m ρ c (Proc.devRef .tc main_call0_v134)) ⟨_, hr⟩
    ⟨_, hq⟩).symm.trans (e.trans (Finset.sum_congr rfl fun k _ => ?_))
  simp only [show ((u : ℕ) * 16 + d) / 16 = u by omega, show ((u : ℕ) * 16 + d) % 16 = d by omega,
    show ((t : ℕ) * 32 + o) / 32 = t by omega, show ((t : ℕ) * 32 + o) % 32 = o by omega]

end Cert.KernelIdeal.Host

end
-- ==== Proof.Flat.lean ====
module

public import proofs.«01_k».proof.Proof.Spec
public import proofs.«01_k».proof.Proof.Gen.KernelIdeal.Skeleton

@[expose] public section

set_option maxRecDepth 16384

noncomputable section

/- The feature kernel up to its first pooled activation, one lemma per scale. -/
namespace Cert.KernelIdeal.Flat

open Idealize.ShloMosaic Idealize.ShloMosaic.TcCoe Idealize.SL.Sem
open Cert.KernelIdeal Cert.KernelIdeal.Gen Cert.Feat

variable (x0 : FVec Ideal S480x4x128 .f32) (x1 : FVec Ideal S20x16x128 .f32)
  (x2 : FVec Ideal S16x128 .f32) (g2 : FVec Ideal S240x4x128 .f32)
  (g4 : FVec Ideal S120x4x4x128 .f32)

/-- The first convolution's weights as the kernel holds them, read in lane `b`. -/
def wgt1 (b o c k : ℕ) : EReal := rd3 x1 (c * 5 + k) o b

/-- The first convolution's bias as the kernel holds it, read in lane `b`. -/
def bias1 (b o : ℕ) : EReal := rd2 x2 o b

/-- A staged sequence read in lane `b`, channel first. -/
def seq {L : ℕ} (x : FVec Ideal ⟨3, ![L, 4, 128]⟩ .f32) (b c l : ℕ) : EReal := rd3 x l c b

/-- Scale 1: the first pooled activation, one row per position and channel. -/
def flat1 : FVec Ideal S3808x128 .f32 :=
  k0_pay16 (k0_pay13 (k0_pay2 x0))
    (k0_pay14 (k0_pay2 x0) (k0_pay3 x1) (k0_pay10 (k0_pay2 x0))
      (k0_pay11 (k0_pay2 x0) (k0_pay3 x1) (k0_pay7 x0 x1 x2) (k0_pay8 x0) (k0_pay9 x1))
      (k0_pay12 (k0_pay2 x0) (k0_pay3 x1)))
    (k0_pay15 (k0_pay3 x1))

/-- Scale 2, over the averaged sequence. -/
def flat2 : FVec Ideal S1888x128 .f32 :=
  k0_pay33 (k0_pay3 x1) g2
    (k0_pay30 (k0_pay3 x1) g2 (k0_pay26 g2)
      (k0_pay27 (k0_pay3 x1) g2 (k0_pay25 (k0_pay4 x2))) (k0_pay28 (k0_pay3 x1)))
    (k0_pay31 g2) (k0_pay32 (k0_pay3 x1))

/-- Scale 4, over the sequence cut in windows of four. -/
def flat4 : FVec Ideal S928x128 .f32 :=
  k0_pay47 (k0_pay3 x1) (k0_pay39 g4) (k0_pay43 (k0_pay39 g4))
    (k0_pay44 (k0_pay3 x1) (k0_pay39 g4) (k0_pay40 g4)
      (k0_pay41 (k0_pay3 x1) (k0_pay4 x2) g4) (k0_pay42 (k0_pay3 x1)))
    (k0_pay45 (k0_pay39 g4)) (k0_pay46 (k0_pay3 x1))

set_option maxHeartbeats 2000000 in
/-- Scale 1: row `r` holds channel `r % 16` at position `r / 16`. -/
theorem flat1_at (r : Fin 3808) (b : Fin 128) :
    flat1 x0 x1 x2 (ix2 r b) = act1 (wgt1 x1 b) (bias1 x2 b) (seq x0 b) (r % 16) (r / 16) := by
  unfold act1 maxPair
  pointwise [flat1, k0_pay2, k0_pay3, k0_pay4, k0_pay6, k0_pay7, k0_pay8, k0_pay9, k0_pay10,
    k0_pay11, k0_pay12, k0_pay13, k0_pay14, k0_pay15, k0_pay16]
  simp only [conv1_terms, rd3_fin x0, rd3_fin x1, rd2_fin x2]
  rfl

set_option maxHeartbeats 2000000 in
/-- Scale 2: row `r` holds channel `r % 16` at position `r / 16`. -/
theorem flat2_at (r : Fin 1888) (b : Fin 128) :
    flat2 x1 x2 g2 (ix2 r b) = act1 (wgt1 x1 b) (bias1 x2 b) (seq g2 b) (r % 16) (r / 16) := by
  unfold act1 maxPair
  pointwise [flat2, k0_pay3, k0_pay4, k0_pay25, k0_pay26, k0_pay27, k0_pay28, k0_pay29, k0_pay30,
    k0_pay31, k0_pay32, k0_pay33]
  simp only [conv1_terms, rd3_fin g2, rd3_fin x1, rd2_fin x2]
  rfl

set_option maxHeartbeats 2000000 in
/-- Scale 4: row `r` holds channel `r % 16` at position `r / 16`. -/
theorem flat4_at (r : Fin 928) (b : Fin 128) :
    flat4 x1 x2 g4 (ix2 r b)
      = act1 (wgt1 x1 b) (bias1 x2 b) (seq (k0_pay39 g4) b) (r % 16) (r / 16) := by
  unfold act1 maxPair
  pointwise [flat4, k0_pay3, k0_pay4, k0_pay40, k0_pay41, k0_pay42, k0_pay43, k0_pay44, k0_pay45,
    k0_pay46, k0_pay47]
  simp only [conv1_terms, rd3_fin (k0_pay39 g4), rd3_fin x1, rd2_fin x2]
  rfl

/-- Scale 2's sequence is the average of neighbouring pairs. -/
theorem seq2 (b : Fin 128) (c : Fin 4) (l : Fin 240) :
    seq (k0_pay24 (k0_pay2 x0)) b c l
      = coarse 2 (Ideal.ofBits .f32 0x40000000#32) (seq x0 b) c l := by
  unfold seq coarse
  rw [← rd3_fin]
  pointwise [k0_pay24, k0_pay2]
  exact congrArg (Ideal.div · _) (Finset.sum_congr rfl fun i _ => rd3_fin x0 _ c b)

/-- Scale 4's sequence is the average of four neighbours. -/
theorem seq4 (b : Fin 128) (c : Fin 4) (l : Fin 120) :
    seq (k0_pay39 (k0_pay38 (k0_pay2 x0))) b c l
      = coarse 4 (Ideal.ofBits .f32 0x40800000#32) (seq x0 b) c l := by
  unfold seq coarse
  rw [← rd3_fin]
  pointwise [k0_pay39, k0_pay38, k0_pay2]
  exact congrArg (Ideal.div · _) (Finset.sum_congr rfl fun i _ => rd3_fin x0 _ c b)

end Cert.KernelIdeal.Flat

end
-- ==== Proof.Tiles.lean ====
module

public import proofs.«01_k».proof.Proof.Band
public import proofs.«01_k».proof.Proof.Gen.KernelIdeal.Skeleton

@[expose] public section

set_option maxRecDepth 16384

noncomputable section

/- The feature kernel from the first pooled activation to its output, one lemma per scale. -/
namespace Cert.KernelIdeal.Tiles

open Idealize.ShloMosaic Idealize.ShloMosaic.TcCoe Idealize.SL.Sem
open Cert.KernelIdeal Cert.KernelIdeal.Gen Cert.Feat

variable (x3 : FVec Ideal S32x128 .f32) (m1 : FVec Ideal S832x480 .f32)
  (m2 : FVec Ideal S608x368 .f32) (m4 : FVec Ideal S576x352 .f32)
  (s0 : FVec Ideal S480x1x128 .f32) (s1 : FVec Ideal S476x16x128 .f32) (s2 : FVec Ideal S16x128 .f32)
  (r0 : FVec Ideal S20x16x128 .f32) (r1 : FVec Ideal S240x4x128 .f32)
  (r2 : FVec Ideal S236x16x128 .f32) (r3 : FVec Ideal S236x1x128 .f32)
  (r4 : FVec Ideal S236x16x128 .f32)
  (a1 : FVec Ideal S117x32x128 .f32) (a2 : FVec Ideal S57x32x128 .f32) (f4 : FVec Ideal S928x128 .f32)

/-- The second convolution's bias as the kernel holds it, read in lane `b`. -/
def bias2 (b o : ℕ) : EReal := rd2 x3 o b

/-- An activation held one row per position and channel, read in lane `b`. -/
def rows {n : ℕ} (f : FVec Ideal ⟨2, ![n, 128]⟩ .f32) (b c l : ℕ) : EReal := rd2 f (l * 16 + c) b

/-- Scale 1: the nine tiles side by side, pooled. -/
def tiles1 : FVec Ideal S117x32x128 .f32 :=
  k0_pay23 (k0_pay5 x3) (k0_pay16 s0 s1 s2) (k0_pay17 m1) (k0_pay18 (k0_pay5 x3) s0 s1 s2 m1)
    (k0_pay19 (k0_pay5 x3) s0 s1 s2 m1) (k0_pay20 (k0_pay5 x3) s0 s1 s2 m1)
    (k0_pay21 (k0_pay5 x3) s0 s1 s2 m1) (k0_pay22 s0 s1 s2 m1)

/-- Scale 2: the six tiles side by side, pooled. -/
def tiles2 : FVec Ideal S57x32x128 .f32 :=
  k0_pay37 (k0_pay5 x3) (k0_pay33 r0 r1 r2 r3 r4) (k0_pay34 m2) (k0_pay35 r0 r1 r2 r3 r4 m2)
    (k0_pay36 (k0_pay5 x3))

/-- One entry of a tile: the band against the tile's rows, then bias and clamp. -/
theorem entry {T n : ℕ} (hn : n = (T + 4) * 16) {m : ℕ → ℕ → EReal} {w : ℕ → ℕ → ℕ → EReal}
    (hm : IsBand T m w) (b2 : ℕ → EReal) {N : ℕ} (f : FVec Ideal ⟨2, ![N, 128]⟩ .f32)
    (b : ℕ) (o : Fin 32) (base t l : ℕ) (ht : t < T) (hl : l = base + t) :
    max ((∑ q : Fin n, m (t * 32 + o) q * rd2 f (base * 16 + q) b) + b2 o) 0
      = max (conv2 w b2 (rows f b) o l) 0 := by
  have e := band_sum hn hm (fun r => rd2 f r b) base ⟨t, ht⟩ o
  rw [e, hl, add_comm]
  rfl

/-- One entry of the first tile. -/
theorem entry0 {T n : ℕ} (hn : n = (T + 4) * 16) {m : ℕ → ℕ → EReal} {w : ℕ → ℕ → ℕ → EReal}
    (hm : IsBand T m w) (b2 : ℕ → EReal) {N : ℕ} (f : FVec Ideal ⟨2, ![N, 128]⟩ .f32)
    (b : ℕ) (o : Fin 32) (t : ℕ) (ht : t < T) :
    max ((∑ q : Fin n, m (t * 32 + o) q * rd2 f q b) + b2 o) 0
      = max (conv2 w b2 (rows f b) o t) 0 := by
  have e := entry hn hm b2 f b o 0 t t ht (Nat.zero_add t).symm
  simp only [Nat.zero_mul, Nat.zero_add] at e
  exact e

/-- A case distinction whose two branches agree with a third value. -/
theorem dite_eq_of {c : Prop} [Decidable c] {a b : EReal} (x : EReal) (h1 : c → a = x)
    (h2 : ¬c → b = x) : (if _h : c then a else b) = x := by
  by_cases h : c
  · rw [dif_pos h]; exact h1 h
  · rw [dif_neg h]; exact h2 h

set_option maxHeartbeats 2000000 in
/-- Scale 1: the second convolution of the activation, pooled. -/
theorem tiles1_at {w : ℕ → ℕ → ℕ → EReal} (hm : IsBand 26 (rd2 m1) w) (p : Fin 117)
    (o : Fin 32) (b : Fin 128) :
    tiles1 x3 m1 s0 s1 s2 (ix3 p o b)
      = maxPair (conv2 w (bias2 x3 b) (rows (k0_pay16 s0 s1 s2) b) o) p := by
  unfold maxPair
  pointwise [tiles1, k0_pay5, k0_pay17, k0_pay18, k0_pay19, k0_pay20, k0_pay21, k0_pay22,
    k0_pay23]
  refine congrArg (Finset.fold max _ · Finset.univ) (funext fun k => ?_)
  have hp := p.isLt
  have hk := k.isLt
  simp only [rd2_fin m1, rd2_fin x3, rd2_fin (k0_pay16 s0 s1 s2)]
  refine dite_eq_of _ (fun h0 => entry0 rfl hm (bias2 x3 b) _ b o _ h0) fun h0 => ?_
  refine dite_eq_of _ (fun h1 => entry rfl hm (bias2 x3 b) _ b o 26 _ _ h1 (by omega)) fun h1 => ?_
  refine dite_eq_of _ (fun h2 => entry rfl hm (bias2 x3 b) _ b o 52 _ _ h2 (by omega)) fun h2 => ?_
  refine dite_eq_of _ (fun h3 => entry rfl hm (bias2 x3 b) _ b o 78 _ _ h3 (by omega)) fun h3 => ?_
  refine dite_eq_of _ (fun h4 => entry rfl hm (bias2 x3 b) _ b o 104 _ _ h4 (by omega)) fun h4 => ?_
  refine dite_eq_of _ (fun h5 => entry rfl hm (bias2 x3 b) _ b o 130 _ _ h5 (by omega)) fun h5 => ?_
  refine dite_eq_of _ (fun h6 => entry rfl hm (bias2 x3 b) _ b o 156 _ _ h6 (by omega)) fun h6 => ?_
  refine dite_eq_of _ (fun h7 => entry rfl hm (bias2 x3 b) _ b o 182 _ _ h7 (by omega)) fun h7 => ?_
  exact entry rfl hm (bias2 x3 b) _ b o 208 _ _ (by omega) (by omega)

set_option maxHeartbeats 2000000 in
/-- Scale 2: the second convolution of the activation, pooled. -/
theorem tiles2_at {w : ℕ → ℕ → ℕ → EReal} (hm : IsBand 19 (rd2 m2) w) (p : Fin 57)
    (o : Fin 32) (b : Fin 128) :
    tiles2 x3 m2 r0 r1 r2 r3 r4 (ix3 p o b)
      = maxPair (conv2 w (bias2 x3 b) (rows (k0_pay33 r0 r1 r2 r3 r4) b) o) p := by
  unfold maxPair
  pointwise [tiles2, k0_pay5, k0_pay34, k0_pay35, k0_pay36, k0_pay37]
  refine congrArg (Finset.fold max _ · Finset.univ) (funext fun k => ?_)
  have hp := p.isLt
  have hk := k.isLt
  simp only [rd2_fin m2, rd2_fin x3, rd2_fin (k0_pay33 r0 r1 r2 r3 r4)]
  refine dite_eq_of _ (fun h0 => entry0 rfl hm (bias2 x3 b) _ b o _ h0) fun h0 => ?_
  refine dite_eq_of _ (fun h1 => entry rfl hm (bias2 x3 b) _ b o 19 _ _ h1 (by omega)) fun h1 => ?_
  refine dite_eq_of _ (fun h2 => entry rfl hm (bias2 x3 b) _ b o 38 _ _ h2 (by omega)) fun h2 => ?_
  refine dite_eq_of _ (fun h3 => entry rfl hm (bias2 x3 b) _ b o 57 _ _ h3 (by omega)) fun h3 => ?_
  refine dite_eq_of _ (fun h4 => entry rfl hm (bias2 x3 b) _ b o 76 _ _ h4 (by omega)) fun h4 => ?_
  exact entry rfl hm (bias2 x3 b) _ b o 95 _ _ (by omega) (by omega)

set_option maxHeartbeats 2000000 in
/-- The output block: scales 1 and 2 as given, then scale 4's second convolution, pooled. -/
theorem out_at {w : ℕ → ℕ → ℕ → EReal} (hm : IsBand 18 (rd2 m4) w) (p : Fin 201) (o : Fin 32)
    (b : Fin 128) :
    k0_pay1 (k0_pay5 x3) a1 a2 f4 m4 (ix3 p o b)
      = if (p : ℕ) < 117 then rd3 a1 p o b
        else if (p : ℕ) - 117 < 57 then rd3 a2 (p - 117) o b
        else maxPair (conv2 w (bias2 x3 b) (rows f4 b) o) (p - 117 - 57) := by
  unfold maxPair
  pointwise [k0_pay1, k0_pay5]
  have hp := p.isLt
  simp only [rd2_fin m4, rd2_fin x3, rd2_fin f4, rd3_fin a1, rd3_fin a2]
  refine dite_eq_of _ (fun h => by rw [if_pos h]) fun h => ?_
  rw [if_neg h]
  refine dite_eq_of _ (fun h' => by rw [if_pos h']) fun h' => ?_
  rw [if_neg h']
  refine congrArg (Finset.fold max _ · Finset.univ) (funext fun k => ?_)
  have hk := k.isLt
  refine dite_eq_of _ (fun h0 => entry0 rfl hm (bias2 x3 b) _ b o _ h0) fun h0 => ?_
  refine dite_eq_of _ (fun h1 => entry rfl hm (bias2 x3 b) _ b o 18 _ _ h1 (by omega)) fun h1 => ?_
  exact entry rfl hm (bias2 x3 b) _ b o 36 _ _ (by omega) (by omega)

end Cert.KernelIdeal.Tiles

end
-- ==== Proof.Feature.lean ====
module

public import proofs.«01_k».proof.Proof.Flat
public import proofs.«01_k».proof.Proof.Tiles

@[expose] public section

set_option maxRecDepth 16384

noncomputable section

/- The feature kernel's output block is the features of its 128 samples. -/
namespace Cert.KernelIdeal.Feature

open Idealize.ShloMosaic Idealize.ShloMosaic.TcCoe Idealize.SL.Sem
open Cert.KernelIdeal Cert.KernelIdeal.Gen Cert.Feat
open Cert.KernelIdeal.Flat Cert.KernelIdeal.Tiles

/-- The first convolution reads weights, bias and sequence only in their ranges. -/
theorem conv1_congr {w w' : ℕ → ℕ → ℕ → EReal} {b b' : ℕ → EReal} {g g' : ℕ → ℕ → EReal} (o l : ℕ)
    (hw : ∀ (c : Fin 4) (k : Fin 5), w o c k = w' o c k) (hb : b o = b' o)
    (h : ∀ (c : Fin 4) (k : Fin 5), g c (l + k) = g' c (l + k)) :
    conv1 w b g o l = conv1 w' b' g' o l := by
  unfold conv1
  rw [hb]
  exact congrArg _ (Finset.sum_congr rfl fun c _ => Finset.sum_congr rfl fun k _ => by
    rw [h c k, hw c k])

/-- The second pooled activation at `p` reads the sequence up to position `4 * p + 15`. -/
theorem act2_congr {w1 w1' : ℕ → ℕ → ℕ → EReal} {b1 b1' : ℕ → EReal} (w2 : ℕ → ℕ → ℕ → EReal)
    {b2 b2' : ℕ → EReal} {g g' : ℕ → ℕ → EReal} (o p : ℕ) {L : ℕ} (hp : 4 * p + 16 ≤ L)
    (hw : ∀ (o : Fin 16) (c : Fin 4) (k : Fin 5), w1 o c k = w1' o c k)
    (hb : ∀ o : Fin 16, b1 o = b1' o) (hb2 : b2 o = b2' o)
    (h : ∀ (c : Fin 4) (l : Fin L), g c l = g' c l) :
    act2 w1 b1 w2 b2 g o p = act2 w1' b1' w2 b2' g' o p := by
  refine maxPair_congr _ _ _ fun k => (conv2_congr _ _ _ _ _ _ fun c j => ?_).trans
    (congrArg (· + _) hb2)
  refine maxPair_congr _ _ _ fun k' => conv1_congr _ _ (hw c) (hb c) fun d i => ?_
  exact h d ⟨(p * 2 + k + j) * 2 + k' + i, by omega⟩

/-- An average over a window reads that window. -/
theorem coarse_congr (s : ℕ) (d : EReal) {x x' : ℕ → ℕ → EReal} {L : ℕ}
    (h : ∀ (c : Fin 4) (l : Fin L), x c l = x' c l) (c : Fin 4) (l : ℕ) (hl : l * s + s ≤ L) :
    coarse s d x c l = coarse s d x' c l :=
  congrArg (Ideal.div · d) (Finset.sum_congr rfl fun i _ => h c ⟨l * s + i, by omega⟩)

/-- The features read weights, biases and samples only in their ranges. -/
theorem feat_congr {w1 w1' : ℕ → ℕ → ℕ → EReal} {b1 b1' : ℕ → EReal} (w2 : ℕ → ℕ → ℕ → EReal)
    {b2 b2' : ℕ → EReal} {x x' : ℕ → ℕ → EReal} (o : Fin 32) (p : Fin 201)
    (hw : ∀ (o : Fin 16) (c : Fin 4) (k : Fin 5), w1 o c k = w1' o c k)
    (hb : ∀ o : Fin 16, b1 o = b1' o) (hb2 : ∀ o : Fin 32, b2 o = b2' o)
    (hx : ∀ (c : Fin 4) (l : Fin 480), x c l = x' c l) :
    feat w1 b1 w2 b2 x o p = feat w1' b1' w2 b2' x' o p := by
  have hp := p.isLt
  unfold feat
  by_cases c1 : (p : ℕ) < 117
  · rw [if_pos c1, if_pos c1]
    exact act2_congr _ _ _ (by omega) hw hb (hb2 o) hx
  · rw [if_neg c1, if_neg c1]
    by_cases c2 : (p : ℕ) - 117 < 57
    · rw [if_pos c2, if_pos c2]
      exact act2_congr _ _ _ (L := 240) (by omega) hw hb (hb2 o) fun c l =>
        coarse_congr 2 _ hx c l (by omega)
    · rw [if_neg c2, if_neg c2]
      exact act2_congr _ _ _ (L := 120) (by omega) hw hb (hb2 o) fun c l =>
        coarse_congr 4 _ hx c l (by omega)

/-- Rows that hold the first pooled activation, convolved and pooled, give the second one. -/
theorem second {w1 : ℕ → ℕ → ℕ → EReal} {b1 : ℕ → EReal} {g : ℕ → ℕ → EReal} {n : ℕ}
    (f : FVec Ideal ⟨2, ![n, 128]⟩ .f32) (b : Fin 128)
    (hf : ∀ r : Fin n, f (ix2 r b) = act1 w1 b1 g (r % 16) (r / 16))
    (w2 : ℕ → ℕ → ℕ → EReal) (b2 : ℕ → EReal) (o p : ℕ) (hp : (p * 2 + 6) * 16 ≤ n) :
    maxPair (conv2 w2 b2 (rows f b) o) p = act2 w1 b1 w2 b2 g o p := by
  refine maxPair_congr _ _ _ fun k => conv2_congr _ _ _ _ _ _ fun c j => ?_
  have e := hf ⟨(p * 2 + k + j) * 16 + c, by omega⟩
  rw [rd2_fin f] at e
  refine e.trans ?_
  congr 1
  · show ((p * 2 + (k : ℕ) + j) * 16 + c) % 16 = c
    omega
  · show ((p * 2 + (k : ℕ) + j) * 16 + c) / 16 = p * 2 + k + j
    omega

variable (x0 : FVec Ideal S480x4x128 .f32) (x1 : FVec Ideal S20x16x128 .f32)
  (x2 : FVec Ideal S16x128 .f32) (x3 : FVec Ideal S32x128 .f32) (m1 : FVec Ideal S832x480 .f32)
  (m2 : FVec Ideal S608x368 .f32) (m4 : FVec Ideal S576x352 .f32)

/-- The block the feature kernel stores, over the blocks it loads. -/
def block : FVec Ideal S201x32x128 .bf16 :=
  k0_pay1 (k0_pay5 x3)
    (tiles1 x3 m1 (k0_pay13 (k0_pay2 x0))
      (k0_pay14 (k0_pay2 x0) (k0_pay3 x1) (k0_pay10 (k0_pay2 x0))
        (k0_pay11 (k0_pay2 x0) (k0_pay3 x1) (k0_pay7 x0 x1 x2) (k0_pay8 x0) (k0_pay9 x1))
        (k0_pay12 (k0_pay2 x0) (k0_pay3 x1)))
      (k0_pay15 (k0_pay3 x1)))
    (tiles2 x3 m2 (k0_pay3 x1) (k0_pay24 (k0_pay2 x0))
      (k0_pay30 (k0_pay3 x1) (k0_pay24 (k0_pay2 x0)) (k0_pay26 (k0_pay24 (k0_pay2 x0)))
        (k0_pay27 (k0_pay3 x1) (k0_pay24 (k0_pay2 x0)) (k0_pay25 (k0_pay4 x2)))
        (k0_pay28 (k0_pay3 x1)))
      (k0_pay31 (k0_pay24 (k0_pay2 x0))) (k0_pay32 (k0_pay3 x1)))
    (flat4 x1 x2 (k0_pay38 (k0_pay2 x0))) m4

/-- The stored block is the features of each sample in its lane. -/
theorem block_at {w : ℕ → ℕ → ℕ → EReal} (h1 : IsBand 26 (rd2 m1) w) (h2 : IsBand 19 (rd2 m2) w)
    (h4 : IsBand 18 (rd2 m4) w) (p : Fin 201) (o : Fin 32) (b : Fin 128) :
    block x0 x1 x2 x3 m1 m2 m4 (ix3 p o b)
      = feat (wgt1 x1 b) (bias1 x2 b) w (bias2 x3 b) (seq x0 b) o p := by
  have hp := p.isLt
  unfold block feat
  rw [out_at _ _ _ _ _ h4]
  by_cases c1 : (p : ℕ) < 117
  · rw [if_pos c1, if_pos c1]
    rw [← rd3_fin _ (⟨p, c1⟩ : Fin 117) o b, tiles1_at _ _ _ _ _ h1]
    exact second _ b (flat1_at x0 x1 x2 · b) _ _ _ _ (by show ((p : ℕ) * 2 + 6) * 16 ≤ 3808; omega)
  · rw [if_neg c1, if_neg c1]
    by_cases c2 : (p : ℕ) - 117 < 57
    · rw [if_pos c2, if_pos c2]
      rw [← rd3_fin _ (⟨p - 117, c2⟩ : Fin 57) o b, tiles2_at _ _ _ _ _ _ _ h2]
      refine (second _ b (flat2_at x1 x2 (k0_pay24 (k0_pay2 x0)) · b) _ _ _ _
        (by show (((p : ℕ) - 117) * 2 + 6) * 16 ≤ 1888; omega)).trans ?_
      exact act2_congr _ _ _ (L := 240) (by show 4 * ((p : ℕ) - 117) + 16 ≤ 240; omega)
        (fun _ _ _ => rfl) (fun _ => rfl) rfl (seq2 x0 b)
    · rw [if_neg c2, if_neg c2]
      refine (second _ b (flat4_at x1 x2 (k0_pay38 (k0_pay2 x0)) · b) _ _ _ _
        (by omega)).trans ?_
      exact act2_congr _ _ _ (L := 120) (by omega) (fun _ _ _ => rfl) (fun _ => rfl) rfl (seq4 x0 b)

end Cert.KernelIdeal.Feature

end
-- ==== Proof.Region0.lean ====
module

public import proofs.«01_k».proof.Proof.Feature
public import proofs.«01_k».proof.Proof.Gen.KernelIdeal.Frame
public import Idealize.ShloMosaic.Lib.Pipeline.ValueKit

@[expose] public section

set_option maxRecDepth 16384

noncomputable section

/- The feature kernel over its grid: the array it leaves. -/
namespace Cert.KernelIdeal.Region0

open Idealize.ShloMosaic Idealize.ShloMosaic.TcCoe Idealize.SL.Sem
open Cert.KernelIdeal Cert.KernelIdeal.Gen Cert.Feat
open Cert.KernelIdeal.Flat Cert.KernelIdeal.Tiles Cert.KernelIdeal.Feature
open Idealize.ShloMosaic.Pipeline (Dat)

variable (V : (c : Dev nD) → (b : Ref sig .tc) → Buf (Elt Ideal) ((c : Thread nD τ).loc b)) (c : Dev nD)

/-- Where each window's block lies at each point. -/
theorem idx : ∀ t : Fin cfg0.N, win0_0.index t = ![0, 0, t.val] ∧ win0_1.index t = ![0, 0, 0]
    ∧ win0_2.index t = ![0, 0] ∧ win0_3.index t = ![0, 0] ∧ win0_4.index t = ![0, 0]
    ∧ win0_5.index t = ![0, 0] ∧ win0_6.index t = ![0, 0] ∧ win0_7.index t = ![0, 0, t.val] :=
  (by decide +kernel : ∀ t : Fin grid0.N, _)

/-- A grid point leaves room for its 128 samples. -/
theorem lane_lt (t : Fin cfg0.N) (b : Fin 128) : t.val * 128 + b < 2048 := by
  have h := t.isLt
  have e : cfg0.N = 16 := N_0
  omega

/-- Window 1's block is its whole array. -/
theorem whole1 (t : Fin cfg0.N) :
    (iblk0 V c 1 t : FVec Ideal S20x16x128 .f32) = (V c main_call0_v4 : FVec Ideal S20x16x128 .f32) := by
  blk_ext! [iblk0, idx t]

/-- Window 2's block is its whole array. -/
theorem whole2 (t : Fin cfg0.N) :
    (iblk0 V c 2 t : FVec Ideal S16x128 .f32) = (V c main_call0_v6 : FVec Ideal S16x128 .f32) := by
  blk_ext! [iblk0, idx t]

/-- Window 3's block is its whole array. -/
theorem whole3 (t : Fin cfg0.N) :
    (iblk0 V c 3 t : FVec Ideal S32x128 .f32) = (V c main_call0_v8 : FVec Ideal S32x128 .f32) := by
  blk_ext! [iblk0, idx t]

/-- Window 4's block is its whole array. -/
theorem whole4 (t : Fin cfg0.N) :
    (iblk0 V c 4 t : FVec Ideal S832x480 .f32) = (V c main_call0_v50 : FVec Ideal S832x480 .f32) := by
  blk_ext! [iblk0, idx t]

/-- Window 5's block is its whole array. -/
theorem whole5 (t : Fin cfg0.N) :
    (iblk0 V c 5 t : FVec Ideal S608x368 .f32) = (V c main_call0_v92 : FVec Ideal S608x368 .f32) := by
  blk_ext! [iblk0, idx t]

/-- Window 6's block is its whole array. -/
theorem whole6 (t : Fin cfg0.N) :
    (iblk0 V c 6 t : FVec Ideal S576x352 .f32) = (V c main_call0_v134 : FVec Ideal S576x352 .f32) := by
  blk_ext! [iblk0, idx t]

/-- Window 0's block holds 128 samples. -/
theorem samples (t : Fin cfg0.N) (l : Fin 480) (d : Fin 4) (b : Fin 128) :
    @Eq EReal ((iblk0 V c 0 t : FVec Ideal S480x4x128 .f32) (ix3 l d b))
      ((V c main_call0_v0 : FVec Ideal S480x4x2048 .f32) (ix3 l d ⟨t.val * 128 + b, lane_lt t b⟩)) := by
  blk_ext [iblk0, idx t]

set_option maxHeartbeats 2000000 in
/-- What the body stores is the block over the staged operands. -/
theorem out_eq (x0 : Vec Ideal S480x4x128 .f32) (x1 : Vec Ideal S20x16x128 .f32)
    (x2 : Vec Ideal S16x128 .f32) (x3 : Vec Ideal S32x128 .f32) (x4 : Vec Ideal S832x480 .f32)
    (x5 : Vec Ideal S608x368 .f32) (x6 : Vec Ideal S576x352 .f32) (y : S201x32x128.Idx) :
    out0_7 x0 x1 x2 x3 x4 x5 x6 y = block x0 x1 x2 x3 x4 x5 x6 y := by
  unfold_out out0_7
  frame_out
  rfl

variable (w1 : ℕ → ℕ → ℕ → EReal) (b1 : ℕ → EReal) (w2 : ℕ → ℕ → ℕ → EReal) (b2 : ℕ → EReal)
  (x : ℕ → ℕ → ℕ → EReal)

set_option maxHeartbeats 2000000 in
/-- From the staged operands the feature kernel leaves the features of every sample. -/
theorem final
    (h0 : ∀ (l : Fin 480) (d : Fin 4) (b : Fin 2048),
      @Eq EReal ((V c main_call0_v0 : FVec Ideal S480x4x2048 .f32) (ix3 l d b)) (x b d l))
    (h1 : ∀ (j : Fin 20) (o : Fin 16) (b : Fin 128),
      @Eq EReal ((V c main_call0_v4 : FVec Ideal S20x16x128 .f32) (ix3 j o b)) (w1 o (j / 5) (j % 5)))
    (h2 : ∀ (o : Fin 16) (b : Fin 128),
      @Eq EReal ((V c main_call0_v6 : FVec Ideal S16x128 .f32) (ix2 o b)) (b1 o))
    (h3 : ∀ (o : Fin 32) (b : Fin 128),
      @Eq EReal ((V c main_call0_v8 : FVec Ideal S32x128 .f32) (ix2 o b)) (b2 o))
    (h4 : IsBand 26 (rd2 (φ := .f32) (n := 832) (p := 480) (V c main_call0_v50)) w2)
    (h5 : IsBand 19 (rd2 (φ := .f32) (n := 608) (p := 368) (V c main_call0_v92)) w2)
    (h6 : IsBand 18 (rd2 (φ := .f32) (n := 576) (p := 352) (V c main_call0_v134)) w2) :
    (dat0 V c).arrAt 7 cfg0.N
      = fun i : S201x32x2048.Idx => feat w1 b1 w2 b2 (x (i 2)) (i 1) (i 0) := by
  refine (dat0 V c).arrAt_eq_of_covers 7 _ (by decide +kernel) fun t _ y => ?_
  blk_simp
  rw [after0_7]
  rw [out_eq]
  idx_vars y
  have ei := (idx t).2.2.2.2.2.2.2
  rw [show win0_7.index t 2 = t.val by rw [ei]; rfl, show win0_7.index t 1 = 0 by rw [ei]; rfl,
    show win0_7.index t 0 = 0 by rw [ei]; rfl]
  rw [show 0 * 32 + (y1 : ℕ) = y1 by omega, show 0 * 201 + (y0 : ℕ) = y0 by omega]
  refine (block_at _ _ _ _ _ _ _ (by rw [whole4]; exact h4) (by rw [whole5]; exact h5)
    (by rw [whole6]; exact h6) y0 y1 y2).trans ?_
  refine feat_congr w2 y1 y0 (fun o d k => ?_) (fun o => ?_) (fun o => ?_) (fun d l => ?_)
  · have hj : (d : ℕ) * 5 + k < 20 := by omega
    rw [whole1]
    refine (rd3_fin (φ := .f32) (n := 20) (p := 16) (q := 128) (V c main_call0_v4) ⟨_, hj⟩ o
      y2).symm.trans ((h1 _ o y2).trans ?_)
    show w1 o (((d : ℕ) * 5 + k) / 5) (((d : ℕ) * 5 + k) % 5) = w1 o d k
    rw [show ((d : ℕ) * 5 + k) / 5 = d by omega, show ((d : ℕ) * 5 + k) % 5 = k by omega]
  · rw [whole2]
    exact (rd2_fin (φ := .f32) (n := 16) (p := 128) (V c main_call0_v6) o y2).symm.trans (h2 o y2)
  · rw [whole3]
    exact (rd2_fin (φ := .f32) (n := 32) (p := 128) (V c main_call0_v8) o y2).symm.trans (h3 o y2)
  · exact (rd3_fin (φ := .f32) (n := 480) (p := 4) (q := 128) (iblk0 V c 0 t) l d y2).symm.trans
      ((samples V c t l d y2).trans (h0 l d _))

end Cert.KernelIdeal.Region0

end
-- ==== Proof.Layers.lean ====
module

public import proofs.«01_k».proof.Proof.Spec
public import proofs.«01_k».proof.Proof.Gen.KernelIdeal.Frame
public import Idealize.ShloMosaic.Lib.Pipeline.ValueKit

@[expose] public section

set_option maxRecDepth 16384

noncomputable section

/- The four dense kernels and the head kernel over their grids: the arrays they leave. -/
namespace Cert.KernelIdeal.Layers

open Idealize.ShloMosaic Idealize.ShloMosaic.TcCoe Idealize.SL.Sem
open Cert.KernelIdeal Cert.KernelIdeal.Gen Cert.Feat
open Idealize.ShloMosaic.Pipeline (Dat)

set_option maxHeartbeats 2000000 in
/-- A dense block at an index: its row of weights against its column, plus its bias, clamped. -/
theorem dense_at (v0 : FVec Ideal S536x6432 .bf16) (v2 : FVec Ideal S6432x1024 .bf16)
    (v5 : FVec Ideal S536x128 .f32) (o : Fin 536) (n : Fin 1024) (w x : Fin 6432 → EReal) (b : EReal)
    (h0 : ∀ j, @Eq EReal (v0 (ix2 o j)) (w j)) (h2 : ∀ j, @Eq EReal (v2 (ix2 j n)) (x j)) (h5 : ∀ k, @Eq EReal (v5 (ix2 o k)) b) :
    k1_pay1 (F := Ideal) v0 v2 v5 (ix2 o n) = max ((∑ j : Fin 6432, w j * x j) + b) 0 := by
  pointwise [k1_pay1]
  refine congrArg (max · 0) (congrArg₂ (· + ·)
    (Finset.sum_congr rfl fun j _ => congrArg₂ (· * ·) (h0 j) (h2 j)) ?_)
  split_ifs <;> exact h5 _

/-- The head block's matrix product. -/
def product (v0 : FVec Ideal S8x6432 .bf16) (v2 : FVec Ideal S6432x2048 .bf16) :
    FVec Ideal S8x2048 .f32 :=
  matmul dot_S8x6432_S6432x2048_S8x2048_1_0_0_1_n_n none
    (shapeCast S8x6432 v0 shapeCasts_S8x6432_S8x6432)
    (shapeCast S6432x2048 v2 shapeCasts_S6432x2048_S6432x2048)
    (constant S8x2048 .f32 0x00000000#32)

/-- The product at an index is the row against the column. -/
theorem product_at (v0 : FVec Ideal S8x6432 .bf16) (v2 : FVec Ideal S6432x2048 .bf16) (o : Fin 8)
    (n : Fin 2048) : product v0 v2 (ix2 o n) = ∑ j : Fin 6432, v0 (ix2 o j) * v2 (ix2 j n) := by
  pointwise [product]

set_option maxHeartbeats 2000000 in
/-- The head block at an index: its row of weights against its column, plus its bias. -/
theorem head_at (v0 : FVec Ideal S8x6432 .bf16) (v2 : FVec Ideal S6432x2048 .bf16)
    (v5 : FVec Ideal S8x128 .f32) (o : Fin 8) (n : Fin 2048) (w x : Fin 6432 → EReal) (b : EReal)
    (h0 : ∀ j, @Eq EReal (v0 (ix2 o j)) (w j)) (h2 : ∀ j, @Eq EReal (v2 (ix2 j n)) (x j)) (h5 : ∀ k, @Eq EReal (v5 (ix2 o k)) b) :
    k5_pay1 (F := Ideal) v0 v2 v5 (ix2 o n) = (∑ j : Fin 6432, w j * x j) + b := by
  refine congrArg₂ (· + ·) ((product_at v0 v2 o n).trans
    (Finset.sum_congr rfl fun j _ => congrArg₂ (· * ·) (h0 j) (h2 j))) ?_
  refine (concatenate_replicate_apply (s₁ := S8x128) (t := S8x2048) 1 16
    (shapeCast S8x128 v5 shapeCasts_S8x128_S8x128) _ rfl (ix2 o n)
    (ix2 o ⟨n % 128, Nat.mod_lt _ (by decide)⟩) rfl fun a ha => ?_).trans ?_
  · match a, ha with
    | ⟨0, _⟩, _ => rfl
    | ⟨1, _⟩, ha => exact absurd rfl ha
  · pointwise
    exact h5 _

variable (V : (c : Dev nD) → (b : Ref sig .tc) → Buf (Elt Ideal) ((c : Thread nD τ).loc b)) (c : Dev nD)

/-- The weight rows a grid point of a dense kernel takes are rows of the matrix. -/
theorem row_lt {t : ℕ} (o : Fin 536) : t % 12 * 536 + o < 6432 := by omega

/-- The samples a grid point of a dense kernel takes are samples of the batch. -/
theorem col_lt {t : ℕ} (ht : t < 24) (n : Fin 1024) : t / 12 * 1024 + n < 2048 := by omega

variable (w : ℕ → ℕ → EReal) (b : ℕ → EReal) (h : ℕ → ℕ → EReal)

/-- Where each window's block lies at each point of dense kernel 1. -/
theorem idx1 : ∀ t : Fin cfg1.N, win1_0.index t = ![t.val % 12, 0] ∧ win1_1.index t = ![0, t.val / 12]
    ∧ win1_2.index t = ![t.val % 12, 0] ∧ win1_3.index t = ![t.val % 12, t.val / 12] ∧ t.val < 24 :=
  (by decide +kernel : ∀ t : Fin grid1.N, _)

/-- Dense kernel 1's block of weights. -/
theorem weights1 (t : Fin cfg1.N) (o : Fin 536) (j : Fin 6432) :
    @Eq EReal ((iblk1 V c 0 t : FVec Ideal S536x6432 .bf16) (ix2 o j))
      ((V c main_call0_v138 : FVec Ideal S6432x6432 .bf16) (ix2 ⟨t.val % 12 * 536 + o, row_lt o⟩ j)) := by
  blk_ext [iblk1, idx1 t]

/-- Dense kernel 1's block of columns. -/
theorem columns1 (t : Fin cfg1.N) (j : Fin 6432) (n : Fin 1024) :
    @Eq EReal ((iblk1 V c 1 t : FVec Ideal S6432x1024 .bf16) (ix2 j n))
      ((V c main_call0_v137 : FVec Ideal S6432x2048 .bf16)
        (ix2 j ⟨t.val / 12 * 1024 + n, col_lt (idx1 t).2.2.2.2 n⟩)) := by
  blk_ext [iblk1, idx1 t]

/-- Dense kernel 1's block of biases. -/
theorem biases1 (t : Fin cfg1.N) (o : Fin 536) (k : Fin 128) :
    @Eq EReal ((iblk1 V c 2 t : FVec Ideal S536x128 .f32) (ix2 o k))
      ((V c main_call0_v140 : FVec Ideal S6432x128 .f32) (ix2 ⟨t.val % 12 * 536 + o, row_lt o⟩ k)) := by
  blk_ext [iblk1, idx1 t]

set_option maxHeartbeats 2000000 in
/-- Dense kernel 1 leaves the dense layer of every sample. -/
theorem final1
    (hw : ∀ o j : Fin 6432, @Eq EReal ((V c main_call0_v138 : FVec Ideal S6432x6432 .bf16) (ix2 o j)) (w o j))
    (hb : ∀ (o : Fin 6432) (k : Fin 128),
      @Eq EReal ((V c main_call0_v140 : FVec Ideal S6432x128 .f32) (ix2 o k)) (b o))
    (hh : ∀ (j : Fin 6432) (n : Fin 2048),
      @Eq EReal ((V c main_call0_v137 : FVec Ideal S6432x2048 .bf16) (ix2 j n)) (h n j)) :
    (dat1 V c).arrAt 3 cfg1.N = fun i : S6432x2048.Idx => dense w b (h (i 1)) (i 0) := by
  refine (dat1 V c).arrAt_eq_of_covers 3 _ (by decide +kernel) fun t _ y => ?_
  blk_simp
  rw [after1_3]
  frame_out
  idx_vars y
  have ei := (idx1 t).2.2.2.1
  rw [show win1_3.index t 1 = t.val / 12 by rw [ei]; rfl,
    show win1_3.index t 0 = t.val % 12 by rw [ei]; rfl]
  exact dense_at _ _ _ y0 y1 _ _ _ (fun j => (weights1 V c t y0 j).trans (hw _ j))
    (fun j => (columns1 V c t j y1).trans (hh j _)) (fun k => (biases1 V c t y0 k).trans (hb _ k))

/-- Where each window's block lies at each point of dense kernel 2. -/
theorem idx2 : ∀ t : Fin cfg2.N, win2_0.index t = ![t.val % 12, 0] ∧ win2_1.index t = ![0, t.val / 12]
    ∧ win2_2.index t = ![t.val % 12, 0] ∧ win2_3.index t = ![t.val % 12, t.val / 12] ∧ t.val < 24 :=
  (by decide +kernel : ∀ t : Fin grid2.N, _)

/-- Dense kernel 2's block of weights. -/
theorem weights2 (t : Fin cfg2.N) (o : Fin 536) (j : Fin 6432) :
    @Eq EReal ((iblk2 V c 0 t : FVec Ideal S536x6432 .bf16) (ix2 o j))
      ((V c main_call0_v138 : FVec Ideal S6432x6432 .bf16) (ix2 ⟨t.val % 12 * 536 + o, row_lt o⟩ j)) := by
  blk_ext [iblk2, idx2 t]

/-- Dense kernel 2's block of columns. -/
theorem columns2 (t : Fin cfg2.N) (j : Fin 6432) (n : Fin 1024) :
    @Eq EReal ((iblk2 V c 1 t : FVec Ideal S6432x1024 .bf16) (ix2 j n))
      ((V c main_call0_v141 : FVec Ideal S6432x2048 .bf16)
        (ix2 j ⟨t.val / 12 * 1024 + n, col_lt (idx2 t).2.2.2.2 n⟩)) := by
  blk_ext [iblk2, idx2 t]

/-- Dense kernel 2's block of biases. -/
theorem biases2 (t : Fin cfg2.N) (o : Fin 536) (k : Fin 128) :
    @Eq EReal ((iblk2 V c 2 t : FVec Ideal S536x128 .f32) (ix2 o k))
      ((V c main_call0_v140 : FVec Ideal S6432x128 .f32) (ix2 ⟨t.val % 12 * 536 + o, row_lt o⟩ k)) := by
  blk_ext [iblk2, idx2 t]

set_option maxHeartbeats 2000000 in
/-- Dense kernel 2 leaves the dense layer of every sample. -/
theorem final2
    (hw : ∀ o j : Fin 6432, @Eq EReal ((V c main_call0_v138 : FVec Ideal S6432x6432 .bf16) (ix2 o j)) (w o j))
    (hb : ∀ (o : Fin 6432) (k : Fin 128),
      @Eq EReal ((V c main_call0_v140 : FVec Ideal S6432x128 .f32) (ix2 o k)) (b o))
    (hh : ∀ (j : Fin 6432) (n : Fin 2048),
      @Eq EReal ((V c main_call0_v141 : FVec Ideal S6432x2048 .bf16) (ix2 j n)) (h n j)) :
    (dat2 V c).arrAt 3 cfg2.N = fun i : S6432x2048.Idx => dense w b (h (i 1)) (i 0) := by
  refine (dat2 V c).arrAt_eq_of_covers 3 _ (by decide +kernel) fun t _ y => ?_
  blk_simp
  rw [after2_3]
  frame_out
  idx_vars y
  have ei := (idx2 t).2.2.2.1
  rw [show win2_3.index t 1 = t.val / 12 by rw [ei]; rfl,
    show win2_3.index t 0 = t.val % 12 by rw [ei]; rfl]
  exact dense_at _ _ _ y0 y1 _ _ _ (fun j => (weights2 V c t y0 j).trans (hw _ j))
    (fun j => (columns2 V c t j y1).trans (hh j _)) (fun k => (biases2 V c t y0 k).trans (hb _ k))

/-- Where each window's block lies at each point of dense kernel 3. -/
theorem idx3 : ∀ t : Fin cfg3.N, win3_0.index t = ![t.val % 12, 0] ∧ win3_1.index t = ![0, t.val / 12]
    ∧ win3_2.index t = ![t.val % 12, 0] ∧ win3_3.index t = ![t.val % 12, t.val / 12] ∧ t.val < 24 :=
  (by decide +kernel : ∀ t : Fin grid3.N, _)

/-- Dense kernel 3's block of weights. -/
theorem weights3 (t : Fin cfg3.N) (o : Fin 536) (j : Fin 6432) :
    @Eq EReal ((iblk3 V c 0 t : FVec Ideal S536x6432 .bf16) (ix2 o j))
      ((V c main_call0_v138 : FVec Ideal S6432x6432 .bf16) (ix2 ⟨t.val % 12 * 536 + o, row_lt o⟩ j)) := by
  blk_ext [iblk3, idx3 t]

/-- Dense kernel 3's block of columns. -/
theorem columns3 (t : Fin cfg3.N) (j : Fin 6432) (n : Fin 1024) :
    @Eq EReal ((iblk3 V c 1 t : FVec Ideal S6432x1024 .bf16) (ix2 j n))
      ((V c main_call0_v142 : FVec Ideal S6432x2048 .bf16)
        (ix2 j ⟨t.val / 12 * 1024 + n, col_lt (idx3 t).2.2.2.2 n⟩)) := by
  blk_ext [iblk3, idx3 t]

/-- Dense kernel 3's block of biases. -/
theorem biases3 (t : Fin cfg3.N) (o : Fin 536) (k : Fin 128) :
    @Eq EReal ((iblk3 V c 2 t : FVec Ideal S536x128 .f32) (ix2 o k))
      ((V c main_call0_v140 : FVec Ideal S6432x128 .f32) (ix2 ⟨t.val % 12 * 536 + o, row_lt o⟩ k)) := by
  blk_ext [iblk3, idx3 t]

set_option maxHeartbeats 2000000 in
/-- Dense kernel 3 leaves the dense layer of every sample. -/
theorem final3
    (hw : ∀ o j : Fin 6432, @Eq EReal ((V c main_call0_v138 : FVec Ideal S6432x6432 .bf16) (ix2 o j)) (w o j))
    (hb : ∀ (o : Fin 6432) (k : Fin 128),
      @Eq EReal ((V c main_call0_v140 : FVec Ideal S6432x128 .f32) (ix2 o k)) (b o))
    (hh : ∀ (j : Fin 6432) (n : Fin 2048),
      @Eq EReal ((V c main_call0_v142 : FVec Ideal S6432x2048 .bf16) (ix2 j n)) (h n j)) :
    (dat3 V c).arrAt 3 cfg3.N = fun i : S6432x2048.Idx => dense w b (h (i 1)) (i 0) := by
  refine (dat3 V c).arrAt_eq_of_covers 3 _ (by decide +kernel) fun t _ y => ?_
  blk_simp
  rw [after3_3]
  frame_out
  idx_vars y
  have ei := (idx3 t).2.2.2.1
  rw [show win3_3.index t 1 = t.val / 12 by rw [ei]; rfl,
    show win3_3.index t 0 = t.val % 12 by rw [ei]; rfl]
  exact dense_at _ _ _ y0 y1 _ _ _ (fun j => (weights3 V c t y0 j).trans (hw _ j))
    (fun j => (columns3 V c t j y1).trans (hh j _)) (fun k => (biases3 V c t y0 k).trans (hb _ k))

/-- Where each window's block lies at each point of dense kernel 4. -/
theorem idx4 : ∀ t : Fin cfg4.N, win4_0.index t = ![t.val % 12, 0] ∧ win4_1.index t = ![0, t.val / 12]
    ∧ win4_2.index t = ![t.val % 12, 0] ∧ win4_3.index t = ![t.val % 12, t.val / 12] ∧ t.val < 24 :=
  (by decide +kernel : ∀ t : Fin grid4.N, _)

/-- Dense kernel 4's block of weights. -/
theorem weights4 (t : Fin cfg4.N) (o : Fin 536) (j : Fin 6432) :
    @Eq EReal ((iblk4 V c 0 t : FVec Ideal S536x6432 .bf16) (ix2 o j))
      ((V c main_call0_v138 : FVec Ideal S6432x6432 .bf16) (ix2 ⟨t.val % 12 * 536 + o, row_lt o⟩ j)) := by
  blk_ext [iblk4, idx4 t]

/-- Dense kernel 4's block of columns. -/
theorem columns4 (t : Fin cfg4.N) (j : Fin 6432) (n : Fin 1024) :
    @Eq EReal ((iblk4 V c 1 t : FVec Ideal S6432x1024 .bf16) (ix2 j n))
      ((V c main_call0_v143 : FVec Ideal S6432x2048 .bf16)
        (ix2 j ⟨t.val / 12 * 1024 + n, col_lt (idx4 t).2.2.2.2 n⟩)) := by
  blk_ext [iblk4, idx4 t]

/-- Dense kernel 4's block of biases. -/
theorem biases4 (t : Fin cfg4.N) (o : Fin 536) (k : Fin 128) :
    @Eq EReal ((iblk4 V c 2 t : FVec Ideal S536x128 .f32) (ix2 o k))
      ((V c main_call0_v140 : FVec Ideal S6432x128 .f32) (ix2 ⟨t.val % 12 * 536 + o, row_lt o⟩ k)) := by
  blk_ext [iblk4, idx4 t]

set_option maxHeartbeats 2000000 in
/-- Dense kernel 4 leaves the dense layer of every sample. -/
theorem final4
    (hw : ∀ o j : Fin 6432, @Eq EReal ((V c main_call0_v138 : FVec Ideal S6432x6432 .bf16) (ix2 o j)) (w o j))
    (hb : ∀ (o : Fin 6432) (k : Fin 128),
      @Eq EReal ((V c main_call0_v140 : FVec Ideal S6432x128 .f32) (ix2 o k)) (b o))
    (hh : ∀ (j : Fin 6432) (n : Fin 2048),
      @Eq EReal ((V c main_call0_v143 : FVec Ideal S6432x2048 .bf16) (ix2 j n)) (h n j)) :
    (dat4 V c).arrAt 3 cfg4.N = fun i : S6432x2048.Idx => dense w b (h (i 1)) (i 0) := by
  refine (dat4 V c).arrAt_eq_of_covers 3 _ (by decide +kernel) fun t _ y => ?_
  blk_simp
  rw [after4_3]
  frame_out
  idx_vars y
  have ei := (idx4 t).2.2.2.1
  rw [show win4_3.index t 1 = t.val / 12 by rw [ei]; rfl,
    show win4_3.index t 0 = t.val % 12 by rw [ei]; rfl]
  exact dense_at _ _ _ y0 y1 _ _ _ (fun j => (weights4 V c t y0 j).trans (hw _ j))
    (fun j => (columns4 V c t j y1).trans (hh j _)) (fun k => (biases4 V c t y0 k).trans (hb _ k))

/-- The head kernel's blocks are whole arrays. -/
theorem idx5 : ∀ t : Fin cfg5.N, win5_0.index t = ![0, 0] ∧ win5_1.index t = ![0, 0]
    ∧ win5_2.index t = ![0, 0] ∧ win5_3.index t = ![0, 0] :=
  (by decide +kernel : ∀ t : Fin grid5.N, _)

/-- The head kernel's weights. -/
theorem weights5 (t : Fin cfg5.N) (o : Fin 8) (j : Fin 6432) :
    @Eq EReal ((iblk5 V c 0 t : FVec Ideal S8x6432 .bf16) (ix2 o j))
      ((V c main_call0_v146 : FVec Ideal S8x6432 .bf16) (ix2 o j)) := by
  blk_ext [iblk5, idx5 t]

/-- The head kernel's columns. -/
theorem columns5 (t : Fin cfg5.N) (j : Fin 6432) (n : Fin 2048) :
    @Eq EReal ((iblk5 V c 1 t : FVec Ideal S6432x2048 .bf16) (ix2 j n))
      ((V c main_call0_v144 : FVec Ideal S6432x2048 .bf16) (ix2 j n)) := by
  blk_ext [iblk5, idx5 t]

/-- The head kernel's biases. -/
theorem biases5 (t : Fin cfg5.N) (o : Fin 8) (k : Fin 128) :
    @Eq EReal ((iblk5 V c 2 t : FVec Ideal S8x128 .f32) (ix2 o k))
      ((V c main_call0_v149 : FVec Ideal S8x128 .f32) (ix2 o k)) := by
  blk_ext [iblk5, idx5 t]

set_option maxHeartbeats 2000000 in
/-- The head kernel leaves the head of every sample. -/
theorem final5
    (hw : ∀ (o : Fin 8) (j : Fin 6432),
      @Eq EReal ((V c main_call0_v146 : FVec Ideal S8x6432 .bf16) (ix2 o j)) (w o j))
    (hb : ∀ (o : Fin 8) (k : Fin 128),
      @Eq EReal ((V c main_call0_v149 : FVec Ideal S8x128 .f32) (ix2 o k)) (b o))
    (hh : ∀ (j : Fin 6432) (n : Fin 2048),
      @Eq EReal ((V c main_call0_v144 : FVec Ideal S6432x2048 .bf16) (ix2 j n)) (h n j)) :
    (dat5 V c).arrAt 3 cfg5.N = fun i : S8x2048.Idx => affine w b (h (i 1)) (i 0) := by
  refine (dat5 V c).arrAt_eq_of_covers 3 _ (by decide +kernel) fun t _ y => ?_
  blk_simp
  rw [after5_3]
  frame_out
  idx_vars y
  have ei := (idx5 t).2.2.2
  rw [show win5_3.index t 1 = 0 by rw [ei]; rfl, show win5_3.index t 0 = 0 by rw [ei]; rfl]
  rw [show 0 * 2048 + (y1 : ℕ) = y1 by omega, show 0 * 8 + (y0 : ℕ) = y0 by omega]
  exact head_at _ _ _ y0 y1 _ _ _ (fun j => (weights5 V c t y0 j).trans (hw _ j))
    (fun j => (columns5 V c t j y1).trans (hh j _)) (fun k => (biases5 V c t y0 k).trans (hb _ k))

end Cert.KernelIdeal.Layers

end
-- ==== Proof.Chain.lean ====
module

public import proofs.«01_k».proof.Proof.Host
public import proofs.«01_k».proof.Proof.Region0
public import proofs.«01_k».proof.Proof.Layers

@[expose] public section

set_option maxRecDepth 16384

noncomputable section

/- From the arguments to the result buffer: the boundaries of the kernel in order. -/
namespace Cert.KernelIdeal.Chain

open Idealize.ShloMosaic Idealize.ShloMosaic.TcCoe Idealize.SL.Sem
open Cert.KernelIdeal Cert.KernelIdeal.Gen Cert.Feat
open Cert.KernelIdeal.Host

variable (m : (ℓ : Loc nD τ sig) → Buf (Elt Ideal) ℓ) (ρ : Dev nD → PrngReg) (c : Dev nD)

/-- The features of sample `n`, flattened channel by channel. -/
def layer0 (n j : ℕ) : EReal :=
  feat (rd3 (arg1 m c)) (rd1 (arg2 m c)) (rd3 (arg3 m c)) (rd1 (arg4 m c)) (rd3 (arg0 m c) n)
    (j / 201) (j % 201)

/-- One dense layer over the samples' columns. -/
def next (h : ℕ → ℕ → EReal) (n j : ℕ) : EReal := dense (rd2 (arg5 m c)) (rd1 (arg6 m c)) (h n) j

/-- The feature kernel's array. -/
theorem features : W2 m ρ c (Proc.devRef .tc main_call0_v135)
    = fun i : S201x32x2048.Idx => feat (rd3 (arg1 m c)) (rd1 (arg2 m c)) (rd3 (arg3 m c))
        (rd1 (arg4 m c)) (rd3 (arg0 m c) (i 2)) (i 1) (i 0) :=
  (W2_arr m ρ c 7).trans (Region0.final (V1 m ρ) c _ _ _ _ _
    (fun l d b => (samples_at m ρ c l d b).trans (rd3_fin (arg0 m c) b d l))
    (fun j o b => wgt1_at m ρ c j o b)
    (fun o b => (bias1_at m ρ c o b).trans (rd1_fin (arg2 m c) o))
    (fun o b => (bias2_at m ρ c o b).trans (rd1_fin (arg4 m c) o))
    (isBand1 m ρ c) (isBand2 m ρ c) (isBand4 m ρ c))

/-- The first dense layer's columns are the samples' features. -/
theorem columns0 (j : Fin 6432) (n : Fin 2048) :
    @Eq EReal ((W3 m ρ c (Proc.devRef .tc main_call0_v137) : FVec Ideal S6432x2048 .bf16) (ix2 j n))
      (layer0 m c n j) := by
  after_reads_at
  rw [features]
  rfl

/-- The dense layers' weights. -/
theorem weights (o j : Fin 6432) :
    @Eq EReal ((W3 m ρ c (Proc.devRef .tc main_call0_v138) : FVec Ideal S6432x6432 .bf16) (ix2 o j))
      (rd2 (arg5 m c) o j) := by
  after_reads_at
  exact (congrFun (W2_args m ρ c main_arg5 (by decide)) _).trans (rd2_fin (arg5 m c) o j)

/-- The dense layers' biases. -/
theorem biases (o : Fin 6432) (k : Fin 128) :
    @Eq EReal ((W3 m ρ c (Proc.devRef .tc main_call0_v140) : FVec Ideal S6432x128 .f32) (ix2 o k))
      (rd1 (arg6 m c) o) := by
  after_reads_at
  exact (congrFun (W2_args m ρ c main_arg6 (by decide)) _).trans (rd1_fin (arg6 m c) o)

/-- Dense layer 1's array. -/
theorem columns1 (j : Fin 6432) (n : Fin 2048) :
    @Eq EReal ((W4 m ρ c (Proc.devRef .tc main_call0_v141) : FVec Ideal S6432x2048 .bf16) (ix2 j n))
      (next m c (layer0 m c) n j) :=
  congrFun ((W4_arr m ρ c 3).trans (Layers.final1 (V3 m ρ) c _ _ _ (weights m ρ c) (biases m ρ c) (columns0 m ρ c))) (ix2 j n)

/-- Dense kernel 1 leaves the weights as they were. -/
theorem weights2 (o j : Fin 6432) :
    @Eq EReal ((W4 m ρ c (Proc.devRef .tc main_call0_v138) : FVec Ideal S6432x6432 .bf16) (ix2 o j))
      (rd2 (arg5 m c) o j) :=
  (congrFun (W4_of m ρ c main_call0_v138 (by decide +kernel)) _).trans (weights m ρ c o j)

/-- Dense kernel 1 leaves the biases as they were. -/
theorem biases2 (o : Fin 6432) (k : Fin 128) :
    @Eq EReal ((W4 m ρ c (Proc.devRef .tc main_call0_v140) : FVec Ideal S6432x128 .f32) (ix2 o k))
      (rd1 (arg6 m c) o) :=
  (congrFun (W4_of m ρ c main_call0_v140 (by decide +kernel)) _).trans (biases m ρ c o k)

/-- Dense layer 2's array. -/
theorem columns2 (j : Fin 6432) (n : Fin 2048) :
    @Eq EReal ((W5 m ρ c (Proc.devRef .tc main_call0_v142) : FVec Ideal S6432x2048 .bf16) (ix2 j n))
      (next m c (next m c (layer0 m c)) n j) :=
  congrFun ((W5_arr m ρ c 3).trans (Layers.final2 (V4 m ρ) c _ _ _ (weights2 m ρ c) (biases2 m ρ c) (columns1 m ρ c))) (ix2 j n)

/-- Dense kernel 2 leaves the weights as they were. -/
theorem weights3 (o j : Fin 6432) :
    @Eq EReal ((W5 m ρ c (Proc.devRef .tc main_call0_v138) : FVec Ideal S6432x6432 .bf16) (ix2 o j))
      (rd2 (arg5 m c) o j) :=
  (congrFun (W5_of m ρ c main_call0_v138 (by decide +kernel)) _).trans (weights2 m ρ c o j)

/-- Dense kernel 2 leaves the biases as they were. -/
theorem biases3 (o : Fin 6432) (k : Fin 128) :
    @Eq EReal ((W5 m ρ c (Proc.devRef .tc main_call0_v140) : FVec Ideal S6432x128 .f32) (ix2 o k))
      (rd1 (arg6 m c) o) :=
  (congrFun (W5_of m ρ c main_call0_v140 (by decide +kernel)) _).trans (biases2 m ρ c o k)

/-- Dense layer 3's array. -/
theorem columns3 (j : Fin 6432) (n : Fin 2048) :
    @Eq EReal ((W6 m ρ c (Proc.devRef .tc main_call0_v143) : FVec Ideal S6432x2048 .bf16) (ix2 j n))
      (next m c (next m c (next m c (layer0 m c))) n j) :=
  congrFun ((W6_arr m ρ c 3).trans (Layers.final3 (V5 m ρ) c _ _ _ (weights3 m ρ c) (biases3 m ρ c) (columns2 m ρ c))) (ix2 j n)

/-- Dense kernel 3 leaves the weights as they were. -/
theorem weights4 (o j : Fin 6432) :
    @Eq EReal ((W6 m ρ c (Proc.devRef .tc main_call0_v138) : FVec Ideal S6432x6432 .bf16) (ix2 o j))
      (rd2 (arg5 m c) o j) :=
  (congrFun (W6_of m ρ c main_call0_v138 (by decide +kernel)) _).trans (weights3 m ρ c o j)

/-- Dense kernel 3 leaves the biases as they were. -/
theorem biases4 (o : Fin 6432) (k : Fin 128) :
    @Eq EReal ((W6 m ρ c (Proc.devRef .tc main_call0_v140) : FVec Ideal S6432x128 .f32) (ix2 o k))
      (rd1 (arg6 m c) o) :=
  (congrFun (W6_of m ρ c main_call0_v140 (by decide +kernel)) _).trans (biases3 m ρ c o k)

/-- Dense layer 4's array. -/
theorem columns4 (j : Fin 6432) (n : Fin 2048) :
    @Eq EReal ((W7 m ρ c (Proc.devRef .tc main_call0_v144) : FVec Ideal S6432x2048 .bf16) (ix2 j n))
      (next m c (next m c (next m c (next m c (layer0 m c)))) n j) :=
  congrFun ((W7_arr m ρ c 3).trans (Layers.final4 (V6 m ρ) c _ _ _ (weights4 m ρ c) (biases4 m ρ c) (columns3 m ρ c))) (ix2 j n)

/-- The fill of the padded head is zero. -/
theorem fill : @Eq EReal (FloatOps.sitofp (F := Ideal) .f32 (0 : BitVec 32)) 0 := by
  show ((((0 : BitVec 32).toInt : ℝ)) : EReal) = 0
  simp

/-- The head's weights, eight rows, three of them zero. -/
theorem headWeights (o : Fin 8) (j : Fin 6432) :
    @Eq EReal ((W8 m ρ c (Proc.devRef .tc main_call0_v146) : FVec Ideal S8x6432 .bf16) (ix2 o j))
      (rd2 (arg7 m c) o j) := by
  after_reads_at
  split_ifs with h
  · exact (congrFun (W7_args m ρ c main_arg7 (by decide)) _).trans (rd2_fin (arg7 m c) ⟨o, h⟩ j)
  · refine fill.trans ?_
    unfold rd2; rw [dif_neg fun k => h k.1]

/-- The head's biases, eight rows, three of them zero. -/
theorem headBiases (o : Fin 8) (k : Fin 128) :
    @Eq EReal ((W8 m ρ c (Proc.devRef .tc main_call0_v149) : FVec Ideal S8x128 .f32) (ix2 o k))
      (rd1 (arg8 m c) o) := by
  after_reads_at
  split_ifs with h
  · exact (congrFun (W7_args m ρ c main_arg8 (by decide)) _).trans (rd1_fin (arg8 m c) ⟨o, h⟩)
  · refine fill.trans ?_
    unfold rd1; rw [dif_neg h]

/-- The head's columns are the last dense layer's. -/
theorem headColumns (j : Fin 6432) (n : Fin 2048) :
    @Eq EReal ((W8 m ρ c (Proc.devRef .tc main_call0_v144) : FVec Ideal S6432x2048 .bf16) (ix2 j n))
      (next m c (next m c (next m c (next m c (layer0 m c)))) n j) :=
  (congrFun (W8_of m ρ c main_call0_v144 (by decide)) _).trans (columns4 m ρ c j n)

/-- The head's array. -/
theorem head : W9 m ρ c (Proc.devRef .tc main_call0_v150)
    = fun i : S8x2048.Idx => affine (rd2 (arg7 m c)) (rd1 (arg8 m c)) (next m c (next m c (next m c (next m c (layer0 m c)))) (i 1)) (i 0) :=
  (W9_arr m ρ c 3).trans (Layers.final5 (V8 m ρ) c _ _ _ (headWeights m ρ c) (headBiases m ρ c)
    (headColumns m ρ c))

/-- The result buffer holds the network of every sample. -/
theorem result (b : Fin 2048) (i : Fin 5) :
    @Eq EReal ((W10 m ρ c (Proc.devRef .tc main_v0) : FVec Ideal S2048x5 .f32) (ix2 b i))
      (net (rd3 (arg1 m c)) (rd1 (arg2 m c)) (rd3 (arg3 m c)) (rd1 (arg4 m c)) (rd2 (arg5 m c))
        (rd1 (arg6 m c)) (rd2 (arg7 m c)) (rd1 (arg8 m c)) (rd3 (arg0 m c) b) i) := by
  after_reads_at
  rw [head]
  rfl

end Cert.KernelIdeal.Chain

end
-- ==== Proof.RefNet.lean ====
module

public import proofs.«01_k».proof.Proof.Spec
public import proofs.«01_k».proof.Proof.Gen.ReferenceIdeal.Read

@[expose] public section

set_option maxRecDepth 16384

noncomputable section

/- The reference's result read at an index is the network of `Spec` at the arguments. -/
namespace Cert.ReferenceIdeal.Net

open Idealize.ShloMosaic Idealize.ShloMosaic.TcCoe Idealize.SL.Sem
open Cert.ReferenceIdeal Cert.ReferenceIdeal.Gen Cert.ReferenceIdeal.Read Cert.Feat

variable (x0 : FVec Ideal S2048x4x480 .f32) (x1 : FVec Ideal S16x4x5 .f32) (x2 : FVec Ideal S16 .f32)
  (x3 : FVec Ideal S32x16x5 .f32) (x4 : FVec Ideal S32 .f32) (x5 : FVec Ideal S6432x6432 .f32)
  (x6 : FVec Ideal S6432 .f32) (x7 : FVec Ideal S5x6432 .f32) (x8 : FVec Ideal S5 .f32)

/-- Division by one changes nothing. -/
theorem div_one (x : EReal) : Ideal.div x 1 = x := by
  unfold Ideal.div
  rw [if_neg one_ne_zero, inv_one, mul_one]

/-- Scale 1: the averaged sequence. -/
theorem coarse1 (b : Fin 2048) (c : Fin 4) (l : Fin 480) :
    val_main_v3 (F := Ideal) x0 (ix3 b c l) = (rd3 x0 b) c l := by
  pointwise [val_main_v3, val_main_v2, val_main_cst_0, val_main_v1, val_main_cst, val_main_v0]
  rw [div_one, Fin.sum_univ_one]
  exact rd3_fin x0 b c l

/-- Scale 1: the first convolution. -/
theorem conv1_1 (b : Fin 2048) (o : Fin 16) (l : Fin 476) :
    val_main_v37 (F := Ideal) x0 x1 x2 (ix3 b o l) = conv1 (rd3 x1) (rd1 x2) (rd3 x0 b) o l := by
  rw [conv1_taps]
  pointwise [val_main_v37, val_main_v36, val_main_v35, val_main_v34, val_main_v33, val_main_v32,
    val_main_v31, val_main_v30, val_main_v29, val_main_v28, val_main_v27, val_main_v26,
    val_main_v25, val_main_v24, val_main_v23, val_main_v22, val_main_v21, val_main_v20,
    val_main_v19, val_main_v18, val_main_v17, val_main_v16, val_main_v15, val_main_v14,
    val_main_v13, val_main_v12, val_main_v11, val_main_v10, val_main_v9, val_main_cst_1,
    val_main_v8, val_main_v7, val_main_v6, val_main_v5, val_main_v4]
  simp only [coarse1, rd3_fin x1, rd1_fin x2]
  rfl

/-- Scale 1: the first pooled activation. -/
theorem act1_1 (b : Fin 2048) (o : Fin 16) (l : Fin 238) :
    val_main_v40 (F := Ideal) x0 x1 x2 (ix3 b o l) = act1 (rd3 x1) (rd1 x2) (rd3 x0 b) o l := by
  pointwise [val_main_v40, val_main_cst_2, val_main_v39, val_main_v38, val_main_call0_v0, val_main_call0_cst]
  simp only [conv1_1]
  rfl

/-- Scale 1: the second convolution. -/
theorem conv2_1 (b : Fin 2048) (o : Fin 32) (l : Fin 234) :
    val_main_v74 (F := Ideal) x0 x1 x2 x3 x4 (ix3 b o l)
      = conv2 (rd3 x3) (rd1 x4) (act1 (rd3 x1) (rd1 x2) (rd3 x0 b)) o l := by
  rw [conv2_taps]
  pointwise [val_main_v74, val_main_v73, val_main_v72, val_main_v71, val_main_v70, val_main_v69,
    val_main_v68, val_main_v67, val_main_v66, val_main_v65, val_main_v64, val_main_v63,
    val_main_v62, val_main_v61, val_main_v60, val_main_v59, val_main_v58, val_main_v57,
    val_main_v56, val_main_v55, val_main_v54, val_main_v53, val_main_v52, val_main_v51,
    val_main_v50, val_main_v49, val_main_v48, val_main_v47, val_main_v46, val_main_cst_3,
    val_main_v45, val_main_v44, val_main_v43, val_main_v42, val_main_v41]
  simp only [act1_1, rd3_fin x3, rd1_fin x4]
  rfl

/-- Scale 1: the second pooled activation. -/
theorem act2_1 (b : Fin 2048) (o : Fin 32) (l : Fin 117) :
    val_main_v77 (F := Ideal) x0 x1 x2 x3 x4 (ix3 b o l)
      = act2 (rd3 x1) (rd1 x2) (rd3 x3) (rd1 x4) (rd3 x0 b) o l := by
  pointwise [val_main_v77, val_main_cst_4, val_main_v76, val_main_v75, val_main_call1_v0, val_main_call1_cst]
  simp only [conv2_1]
  rfl

/-- Scale 2: the averaged sequence. -/
theorem coarse2 (b : Fin 2048) (c : Fin 4) (l : Fin 240) :
    val_main_v81 (F := Ideal) x0 (ix3 b c l) = (coarse 2 (Ideal.ofBits .f32 0x40000000#32) (rd3 x0 b)) c l := by
  pointwise [val_main_v81, val_main_v80, val_main_cst_6, val_main_v79, val_main_cst_5, val_main_v78]
  unfold coarse
  exact congrArg (Ideal.div · _) (Finset.sum_congr rfl fun i _ => rd3_fin x0 b c _)

/-- Scale 2: the first convolution. -/
theorem conv1_2 (b : Fin 2048) (o : Fin 16) (l : Fin 236) :
    val_main_v115 (F := Ideal) x0 x1 x2 (ix3 b o l) = conv1 (rd3 x1) (rd1 x2) (coarse 2 (Ideal.ofBits .f32 0x40000000#32) (rd3 x0 b)) o l := by
  rw [conv1_taps]
  pointwise [val_main_v115, val_main_v114, val_main_v113, val_main_v112, val_main_v111, val_main_v110,
    val_main_v109, val_main_v108, val_main_v107, val_main_v106, val_main_v105, val_main_v104,
    val_main_v103, val_main_v102, val_main_v101, val_main_v100, val_main_v99, val_main_v98,
    val_main_v97, val_main_v96, val_main_v95, val_main_v94, val_main_v93, val_main_v92,
    val_main_v91, val_main_v90, val_main_v89, val_main_v88, val_main_v87, val_main_cst_7,
    val_main_v86, val_main_v85, val_main_v84, val_main_v83, val_main_v82]
  simp only [coarse2, rd3_fin x1, rd1_fin x2]
  rfl

/-- Scale 2: the first pooled activation. -/
theorem act1_2 (b : Fin 2048) (o : Fin 16) (l : Fin 118) :
    val_main_v118 (F := Ideal) x0 x1 x2 (ix3 b o l) = act1 (rd3 x1) (rd1 x2) (coarse 2 (Ideal.ofBits .f32 0x40000000#32) (rd3 x0 b)) o l := by
  pointwise [val_main_v118, val_main_cst_8, val_main_v117, val_main_v116, val_main_call2_v0, val_main_call2_cst]
  simp only [conv1_2]
  rfl

/-- Scale 2: the second convolution. -/
theorem conv2_2 (b : Fin 2048) (o : Fin 32) (l : Fin 114) :
    val_main_v152 (F := Ideal) x0 x1 x2 x3 x4 (ix3 b o l)
      = conv2 (rd3 x3) (rd1 x4) (act1 (rd3 x1) (rd1 x2) (coarse 2 (Ideal.ofBits .f32 0x40000000#32) (rd3 x0 b))) o l := by
  rw [conv2_taps]
  pointwise [val_main_v152, val_main_v151, val_main_v150, val_main_v149, val_main_v148, val_main_v147,
    val_main_v146, val_main_v145, val_main_v144, val_main_v143, val_main_v142, val_main_v141,
    val_main_v140, val_main_v139, val_main_v138, val_main_v137, val_main_v136, val_main_v135,
    val_main_v134, val_main_v133, val_main_v132, val_main_v131, val_main_v130, val_main_v129,
    val_main_v128, val_main_v127, val_main_v126, val_main_v125, val_main_v124, val_main_cst_9,
    val_main_v123, val_main_v122, val_main_v121, val_main_v120, val_main_v119]
  simp only [act1_2, rd3_fin x3, rd1_fin x4]
  rfl

/-- Scale 2: the second pooled activation. -/
theorem act2_2 (b : Fin 2048) (o : Fin 32) (l : Fin 57) :
    val_main_v155 (F := Ideal) x0 x1 x2 x3 x4 (ix3 b o l)
      = act2 (rd3 x1) (rd1 x2) (rd3 x3) (rd1 x4) (coarse 2 (Ideal.ofBits .f32 0x40000000#32) (rd3 x0 b)) o l := by
  pointwise [val_main_v155, val_main_cst_10, val_main_v154, val_main_v153, val_main_call3_v0, val_main_call3_cst]
  simp only [conv2_2]
  rfl

/-- Scale 4: the averaged sequence. -/
theorem coarse4 (b : Fin 2048) (c : Fin 4) (l : Fin 120) :
    val_main_v159 (F := Ideal) x0 (ix3 b c l) = (coarse 4 (Ideal.ofBits .f32 0x40800000#32) (rd3 x0 b)) c l := by
  pointwise [val_main_v159, val_main_v158, val_main_cst_12, val_main_v157, val_main_cst_11, val_main_v156]
  unfold coarse
  exact congrArg (Ideal.div · _) (Finset.sum_congr rfl fun i _ => rd3_fin x0 b c _)

/-- Scale 4: the first convolution. -/
theorem conv1_4 (b : Fin 2048) (o : Fin 16) (l : Fin 116) :
    val_main_v193 (F := Ideal) x0 x1 x2 (ix3 b o l) = conv1 (rd3 x1) (rd1 x2) (coarse 4 (Ideal.ofBits .f32 0x40800000#32) (rd3 x0 b)) o l := by
  rw [conv1_taps]
  pointwise [val_main_v193, val_main_v192, val_main_v191, val_main_v190, val_main_v189, val_main_v188,
    val_main_v187, val_main_v186, val_main_v185, val_main_v184, val_main_v183, val_main_v182,
    val_main_v181, val_main_v180, val_main_v179, val_main_v178, val_main_v177, val_main_v176,
    val_main_v175, val_main_v174, val_main_v173, val_main_v172, val_main_v171, val_main_v170,
    val_main_v169, val_main_v168, val_main_v167, val_main_v166, val_main_v165, val_main_cst_13,
    val_main_v164, val_main_v163, val_main_v162, val_main_v161, val_main_v160]
  simp only [coarse4, rd3_fin x1, rd1_fin x2]
  rfl

/-- Scale 4: the first pooled activation. -/
theorem act1_4 (b : Fin 2048) (o : Fin 16) (l : Fin 58) :
    val_main_v196 (F := Ideal) x0 x1 x2 (ix3 b o l) = act1 (rd3 x1) (rd1 x2) (coarse 4 (Ideal.ofBits .f32 0x40800000#32) (rd3 x0 b)) o l := by
  pointwise [val_main_v196, val_main_cst_14, val_main_v195, val_main_v194, val_main_call4_v0, val_main_call4_cst]
  simp only [conv1_4]
  rfl

/-- Scale 4: the second convolution. -/
theorem conv2_4 (b : Fin 2048) (o : Fin 32) (l : Fin 54) :
    val_main_v230 (F := Ideal) x0 x1 x2 x3 x4 (ix3 b o l)
      = conv2 (rd3 x3) (rd1 x4) (act1 (rd3 x1) (rd1 x2) (coarse 4 (Ideal.ofBits .f32 0x40800000#32) (rd3 x0 b))) o l := by
  rw [conv2_taps]
  pointwise [val_main_v230, val_main_v229, val_main_v228, val_main_v227, val_main_v226, val_main_v225,
    val_main_v224, val_main_v223, val_main_v222, val_main_v221, val_main_v220, val_main_v219,
    val_main_v218, val_main_v217, val_main_v216, val_main_v215, val_main_v214, val_main_v213,
    val_main_v212, val_main_v211, val_main_v210, val_main_v209, val_main_v208, val_main_v207,
    val_main_v206, val_main_v205, val_main_v204, val_main_v203, val_main_v202, val_main_cst_15,
    val_main_v201, val_main_v200, val_main_v199, val_main_v198, val_main_v197]
  simp only [act1_4, rd3_fin x3, rd1_fin x4]
  rfl

/-- Scale 4: the second pooled activation. -/
theorem act2_4 (b : Fin 2048) (o : Fin 32) (l : Fin 27) :
    val_main_v233 (F := Ideal) x0 x1 x2 x3 x4 (ix3 b o l)
      = act2 (rd3 x1) (rd1 x2) (rd3 x3) (rd1 x4) (coarse 4 (Ideal.ofBits .f32 0x40800000#32) (rd3 x0 b)) o l := by
  pointwise [val_main_v233, val_main_cst_16, val_main_v232, val_main_v231, val_main_call5_v0, val_main_call5_cst]
  simp only [conv2_4]
  rfl

/-- The three scales side by side. -/
theorem feats (b : Fin 2048) (o : Fin 32) (p : Fin 201) :
    val_main_v234 (F := Ideal) x0 x1 x2 x3 x4 (ix3 b o p)
      = feat (rd3 x1) (rd1 x2) (rd3 x3) (rd1 x4) (rd3 x0 b) o p := by
  unfold feat
  pointwise [val_main_v234]
  simp only [act2_1, act2_2, act2_4]
  by_cases h : (p : ℕ) < 117
  · simp only [if_pos h, dif_pos h]
  · by_cases h' : (p : ℕ) - 117 < 57
    · simp only [if_neg h, dif_neg h, if_pos h', dif_pos h']
    · simp only [if_neg h, dif_neg h, if_neg h', dif_neg h']

/-- The features as one row per sample: the sequence is the inner coordinate. -/
theorem flat (b : Fin 2048) (j : Fin 6432) :
    val_main_v235 (F := Ideal) x0 x1 x2 x3 x4 (ix2 b j)
      = feat (rd3 x1) (rd1 x2) (rd3 x3) (rd1 x4) (rd3 x0 b) (j / 201) (j % 201) := by
  pointwise [val_main_v235]
  exact feats x0 x1 x2 x3 x4 b _ _

/-- The features after 1 dense layer. -/
theorem dense1 (b : Fin 2048) (i : Fin 6432) :
    val_main_v241 (F := Ideal) x0 x1 x2 x3 x4 x5 x6 (ix2 b i)
      = dense (rd2 x5) (rd1 x6) (fun j => feat (rd3 x1) (rd1 x2) (rd3 x3) (rd1 x4) (rd3 x0 b) (j / 201) (j % 201)) i := by
  pointwise [val_main_v241, val_main_call6_v0, val_main_call6_cst, val_main_v240, val_main_v239, val_main_v238,
    val_main_v237, val_main_v236]
  simp only [flat, rd2_fin x5, rd1_fin x6, mul_comm (dense _ _ _ _), mul_comm (feat _ _ _ _ _ _ _)]
  rfl

/-- The features after 2 dense layers. -/
theorem dense2 (b : Fin 2048) (i : Fin 6432) :
    val_main_v247 (F := Ideal) x0 x1 x2 x3 x4 x5 x6 (ix2 b i)
      = dense (rd2 x5) (rd1 x6) (dense (rd2 x5) (rd1 x6) (fun j => feat (rd3 x1) (rd1 x2) (rd3 x3) (rd1 x4) (rd3 x0 b) (j / 201) (j % 201))) i := by
  pointwise [val_main_v247, val_main_call7_v0, val_main_call7_cst, val_main_v246, val_main_v245, val_main_v244,
    val_main_v243, val_main_v242]
  simp only [dense1, rd2_fin x5, rd1_fin x6, mul_comm (dense _ _ _ _), mul_comm (feat _ _ _ _ _ _ _)]
  rfl

/-- The features after 3 dense layers. -/
theorem dense3 (b : Fin 2048) (i : Fin 6432) :
    val_main_v253 (F := Ideal) x0 x1 x2 x3 x4 x5 x6 (ix2 b i)
      = dense (rd2 x5) (rd1 x6) (dense (rd2 x5) (rd1 x6) (dense (rd2 x5) (rd1 x6) (fun j => feat (rd3 x1) (rd1 x2) (rd3 x3) (rd1 x4) (rd3 x0 b) (j / 201) (j % 201)))) i := by
  pointwise [val_main_v253, val_main_call8_v0, val_main_call8_cst, val_main_v252, val_main_v251, val_main_v250,
    val_main_v249, val_main_v248]
  simp only [dense2, rd2_fin x5, rd1_fin x6, mul_comm (dense _ _ _ _), mul_comm (feat _ _ _ _ _ _ _)]
  rfl

/-- The features after 4 dense layers. -/
theorem dense4 (b : Fin 2048) (i : Fin 6432) :
    val_main_v259 (F := Ideal) x0 x1 x2 x3 x4 x5 x6 (ix2 b i)
      = dense (rd2 x5) (rd1 x6) (dense (rd2 x5) (rd1 x6) (dense (rd2 x5) (rd1 x6) (dense (rd2 x5) (rd1 x6) (fun j => feat (rd3 x1) (rd1 x2) (rd3 x3) (rd1 x4) (rd3 x0 b) (j / 201) (j % 201))))) i := by
  pointwise [val_main_v259, val_main_call9_v0, val_main_call9_cst, val_main_v258, val_main_v257, val_main_v256,
    val_main_v255, val_main_v254]
  simp only [dense3, rd2_fin x5, rd1_fin x6, mul_comm (dense _ _ _ _), mul_comm (feat _ _ _ _ _ _ _)]
  rfl

/-- The reference's result is the network at the arguments. -/
theorem result (b : Fin 2048) (i : Fin 5) :
    val_main_v264 (F := Ideal) x0 x1 x2 x3 x4 x5 x6 x7 x8 (ix2 b i)
      = net (rd3 x1) (rd1 x2) (rd3 x3) (rd1 x4) (rd2 x5) (rd1 x6) (rd2 x7) (rd1 x8) (rd3 x0 b) i := by
  pointwise [val_main_v264, val_main_v263, val_main_v262, val_main_v261, val_main_v260]
  simp only [dense4, rd2_fin x7, rd1_fin x8, mul_comm (dense _ _ _ _)]
  rfl

end Cert.ReferenceIdeal.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.Chain
public import proofs.«01_k».proof.Proof.RefNet
public import Idealize.ShloMosaic.Adequacy
public import Idealize.ShloMosaic.Init

@[expose] public section

noncomputable section

namespace Cert.Proof

open Idealize.ShloMosaic Idealize.SL.Sem Cert.Kernel

/-- At arguments that agree, the reference's composed term is what the kernel's result buffer holds:
both are the network of every sample. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g : Dev Cert.KernelIdeal.nD → PrngReg) (c : Dev Cert.KernelIdeal.nD)
    (agree : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)) :
    Cert.ReferenceIdeal.Read.val_main_v264 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      = Cert.KernelIdeal.Gen.W10 m g c (Proc.devRef .tc Cert.KernelIdeal.main_v0) := by
  obtain ⟨a0, a1, a2, a3, a4, a5, a6, a7, a8⟩ := agree
  rw [a0, a1, a2, a3, a4, a5, a6, a7, a8]
  funext y
  obtain ⟨b, i, rfl⟩ : ∃ (b : Fin 2048) (i : Fin 5), y = ix2 b i := ⟨y 0, y 1, by ext a; fin_cases a <;> rfl⟩
  exact (Cert.ReferenceIdeal.Net.result _ _ _ _ _ _ _ _ _ b i).trans
    (Cert.KernelIdeal.Chain.result m g c b i).symm

/-- The kernel computes every result of the reference over the extended reals, and both programs and
the kernel as printed leave their arguments alone with every counter at zero. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => (θ_run _ _ _).mono (fun r h => ⟨fun c => (h c).2, sem_eq_zero_of_no_sems (by decide) r.2⟩)
      (Cert.ReferenceIdeal.Value.run m ρ), trivial, ?_⟩
  pair_intro
  · run_from Cert.KernelIdeal.Run.run m g
  · refine (θ_run _ _ _).mono (fun r h c => ⟨(h c).1.trans ?_, (h c).2⟩) (Cert.ReferenceIdeal.Value.run m' g')
    exact (Cert.ReferenceIdeal.Read.val_main_v264_eq (StableHlo.launchContents m' c)).trans (values m m' g c (hagree c))⟩

end Cert.Proof

end
